-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts) (hPre_drawn : Cert.Pre_drawn.Facts),
    quiescent_Kernel (hKernel := hKernel) (hPre_in_range := hPre_in_range)
    ∧ quiescent_KernelIdeal (hKernelIdeal := hKernelIdeal) (hPre_in_range := hPre_in_range)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S16384x200 : Shape := ⟨2, ![16384, 200]⟩
abbrev S_ : Shape := ⟨0, ![]⟩
abbrev S24x128 : Shape := ⟨2, ![24, 128]⟩
abbrev S128 : Shape := ⟨1, ![128]⟩

class Facts : Prop where
  bcast_S_S16384x200 : S_.BroadcastsInDim S16384x200 (![] : Fin 0 → Fin S16384x200.rank)
  reducesTo_S16384x200_S_d0_1 : S16384x200.ReducesTo [0, 1] S_
  h_S_ : 0 < S_.numel

variable [Facts]

def fn {F : FTy → Type} [FloatOps F] (main_arg0 : IVec S16384x200 32) (main_arg1 : FVec F S16384x200 .f32) (main_arg2 : FVec F S16384x200 .f32) (main_arg3 : FVec F S_ .f32) (main_arg4 : FVec F S24x128 .f32) (main_arg5 : FVec F S128 .f32) (main_arg6 : FVec F S128 .f32) (main_arg7 : FVec F S128 .f32) : IVec S_ 1 :=
  let main_c : IVec S_ 32 := constantI S_ 32 0#32
  let main_v0 : IVec S16384x200 32 := broadcastInDim S16384x200 ![] bcast_S_S16384x200 main_c
  let main_v1 : IVec S16384x200 1 := cmpi .sge main_arg0 main_v0
  let main_c_0 : IVec S_ 32 := constantI S_ 32 24#32
  let main_v2 : IVec S16384x200 32 := broadcastInDim S16384x200 ![] bcast_S_S16384x200 main_c_0
  let main_v3 : IVec S16384x200 1 := cmpi .slt main_arg0 main_v2
  let main_v4 : IVec S16384x200 1 := andi main_v1 main_v3
  let main_c_1 : IVec S_ 1 := constantI S_ 1 1#1
  let main_v5 : IVec S_ 1 := (fun x v => Host.reduce IntOp.andi x v reducesTo_S16384x200_S_d0_1 h_S_) main_v4 main_c_1
  let main_cst : FVec F S_ .f32 := constant S_ .f32 0x00000000#32
  let main_v6 : FVec F S16384x200 .f32 := broadcastInDim S16384x200 ![] bcast_S_S16384x200 main_cst
  let main_v7 : IVec S16384x200 1 := cmpf .oge main_arg1 main_v6
  let main_c_2 : IVec S_ 1 := constantI S_ 1 1#1
  let main_v8 : IVec S_ 1 := (fun x v => Host.reduce IntOp.andi x v reducesTo_S16384x200_S_d0_1 h_S_) main_v7 main_c_2
  let main_v9 : IVec S_ 1 := andi main_v5 main_v8
  let main_cst_3 : FVec F S_ .f32 := constant S_ .f32 0x3F800000#32
  let main_v10 : FVec F S16384x200 .f32 := broadcastInDim S16384x200 ![] bcast_S_S16384x200 main_cst_3
  let main_v11 : IVec S16384x200 1 := cmpf .oeq main_arg2 main_v10
  let main_c_4 : IVec S_ 1 := constantI S_ 1 1#1
  let main_v12 : IVec S_ 1 := (fun x v => Host.reduce IntOp.andi x v reducesTo_S16384x200_S_d0_1 h_S_) main_v11 main_c_4
  let main_v13 : IVec S_ 1 := andi main_v9 main_v12
  main_v13
-- ==== Pre_in_range.lean ====
abbrev S16384x200 : Shape := ⟨2, ![16384, 200]⟩
abbrev S_ : Shape := ⟨0, ![]⟩
abbrev S24x128 : Shape := ⟨2, ![24, 128]⟩
abbrev S128 : Shape := ⟨1, ![128]⟩

class Facts : Prop where
  bcast_S_S16384x200 : S_.BroadcastsInDim S16384x200 (![] : Fin 0 → Fin S16384x200.rank)
  reducesTo_S16384x200_S_d0_1 : S16384x200.ReducesTo [0, 1] S_
  h_S_ : 0 < S_.numel

variable [Facts]

def fn {F : FTy → Type} [FloatOps F] (main_arg0 : IVec S16384x200 32) (main_arg1 : FVec F S16384x200 .f32) (main_arg2 : FVec F S16384x200 .f32) (main_arg3 : FVec F S_ .f32) (main_arg4 : FVec F S24x128 .f32) (main_arg5 : FVec F S128 .f32) (main_arg6 : FVec F S128 .f32) (main_arg7 : FVec F S128 .f32) : IVec S_ 1 :=
  let main_c : IVec S_ 32 := constantI S_ 32 0#32
  let main_v0 : IVec S16384x200 32 := broadcastInDim S16384x200 ![] bcast_S_S16384x200 main_c
  let main_v1 : IVec S16384x200 1 := cmpi .sge main_arg0 main_v0
  let main_c_0 : IVec S_ 32 := constantI S_ 32 24#32
  let main_v2 : IVec S16384x200 32 := broadcastInDim S16384x200 ![] bcast_S_S16384x200 main_c_0
  let main_v3 : IVec S16384x200 1 := cmpi .slt main_arg0 main_v2
  let main_v4 : IVec S16384x200 1 := andi main_v1 main_v3
  let main_c_1 : IVec S_ 1 := constantI S_ 1 1#1
  let main_v5 : IVec S_ 1 := (fun x v => Host.reduce IntOp.andi x v reducesTo_S16384x200_S_d0_1 h_S_) main_v4 main_c_1
  main_v5
-- ==== Kernel.lean ====
abbrev S16384x200 : Shape := ⟨2, ![16384, 200]⟩
abbrev S_ : Shape := ⟨0, ![]⟩
abbrev S24x128 : Shape := ⟨2, ![24, 128]⟩
abbrev S128 : Shape := ⟨1, ![128]⟩
abbrev S16 : Shape := ⟨1, ![16]⟩
abbrev S2097152 : Shape := ⟨1, ![2097152]⟩
abbrev S128x200 : Shape := ⟨2, ![128, 200]⟩
abbrev S16384 : Shape := ⟨1, ![16384]⟩
abbrev S1x16 : Shape := ⟨2, ![1, 16]⟩
abbrev S16384x128 : Shape := ⟨2, ![16384, 128]⟩
abbrev S1x128 : Shape := ⟨2, ![1, 128]⟩
abbrev S1024x128 : Shape := ⟨2, ![1024, 128]⟩
abbrev S1024x24 : Shape := ⟨2, ![1024, 24]⟩
abbrev S1024 : Shape := ⟨1, ![1024]⟩
abbrev S1024x1 : Shape := ⟨2, ![1024, 1]⟩

abbrev nBuf : Table → Nat
  | .hbm => 17
  | .local .tc .vmem => 8
  | .local .scVector .vmem => 4
  | _ => 0

abbrev bufTy : (tb : Table) → Fin (nBuf tb) → BufTy
  | .hbm, ⟨0, _⟩ => ⟨S16384x200, .i32⟩
  | .hbm, ⟨1, _⟩ => ⟨S16384x200, .f32⟩
  | .hbm, ⟨2, _⟩ => ⟨S16384x200, .f32⟩
  | .hbm, ⟨3, _⟩ => ⟨S_, .f32⟩
  | .hbm, ⟨4, _⟩ => ⟨S24x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S_, .f32⟩
  | .hbm, ⟨10, _⟩ => ⟨S16, .f32⟩
  | .hbm, ⟨11, _⟩ => ⟨S2097152, .f32⟩
  | .hbm, ⟨12, _⟩ => ⟨S16384x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S16384x128, .f32⟩
  | .local .tc .vmem, ⟨0, _⟩ => ⟨S1024x128, .f32⟩
  | .local .tc .vmem, ⟨1, _⟩ => ⟨S1024x128, .f32⟩
  | .local .tc .vmem, ⟨2, _⟩ => ⟨S24x128, .f32⟩
  | .local .tc .vmem, ⟨3, _⟩ => ⟨S1x128, .f32⟩
  | .local .tc .vmem, ⟨4, _⟩ => ⟨S1x128, .f32⟩
  | .local .tc .vmem, ⟨5, _⟩ => ⟨S1x128, .f32⟩
  | .local .tc .vmem, ⟨6, _⟩ => ⟨S1024x128, .f32⟩
  | .local .tc .vmem, ⟨7, _⟩ => ⟨S1024x128, .f32⟩
  | .local .scVector .vmem, ⟨0, _⟩ => ⟨S128x200, .i32⟩
  | .local .scVector .vmem, ⟨1, _⟩ => ⟨S128x200, .f32⟩
  | .local .scVector .vmem, ⟨2, _⟩ => ⟨S16384, .f32⟩
  | .local .scVector .vmem, ⟨3, _⟩ => ⟨S16, .f32⟩
  | _, _ => ⟨S16384x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_arg0_scv : Ref sig .scVector := ⟨.hbm, 0, rfl⟩
abbrev main_arg1_scv : Ref sig .scVector := ⟨.hbm, 1, rfl⟩
abbrev main_v2_scv : Ref sig .scVector := ⟨.hbm, 10, rfl⟩
abbrev main_v3_scv : Ref sig .scVector := ⟨.hbm, 11, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg5_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v7 : BitVec 32 := Scalar.muli v1 c512_i32
  let v8 : BitVec 32 := Scalar.addi v7 c0_i32
  let c0_i32_22_r1 : BitVec 32 := 0#32
  ![v8.toNat, 0]
@[reducible] def k0_t1_loop : Scf.Loop 32 :=
  let c0_i32_0 : BitVec 32 := 0#32
  let c128_i32 : BitVec 32 := 128#32
  let v9 : BitVec 32 := Scalar.addi c0_i32_0 c128_i32
  let c1_i32 : BitVec 32 := 1#32
  ⟨c0_i32_0, v9, c1_i32⟩
def k0_off2 (k0_t1 : Fin k0_t1_loop.trips) : Fin 1 → Nat :=
  let c0_i32_23 : BitVec 32 := 0#32
  let c0_i32_0 : BitVec 32 := 0#32
  let c1_i32 : BitVec 32 := 1#32
  let arg10 : BitVec 32 := Scf.iv c0_i32_0 c1_i32 k0_t1
  let c1_i32_22 : BitVec 32 := 1#32
  let v23 : BitVec 32 := Scalar.muli arg10 c1_i32_22
  let v24 : BitVec 32 := Scalar.addi c0_i32_23 v23
  let c128_i32_24 : BitVec 32 := 128#32
  let v25 : BitVec 32 := Scalar.muli v24 c128_i32_24
  let v26 : Index := Scalar.indexCast v25
  ![v26.toNat]
def k0_off3 (k0_t1 : Fin k0_t1_loop.trips) : Fin 1 → Nat :=
  let c0_i32_23 : BitVec 32 := 0#32
  let c0_i32_0 : BitVec 32 := 0#32
  let c1_i32 : BitVec 32 := 1#32
  let arg10 : BitVec 32 := Scf.iv c0_i32_0 c1_i32 k0_t1
  let c1_i32_22 : BitVec 32 := 1#32
  let v23 : BitVec 32 := Scalar.muli arg10 c1_i32_22
  let v24 : BitVec 32 := Scalar.addi c0_i32_23 v23
  let c128_i32_24 : BitVec 32 := 128#32
  let v25 : BitVec 32 := Scalar.muli v24 c128_i32_24
  let c16_i32 : BitVec 32 := 16#32
  let v28 : BitVec 32 := Scalar.addi v25 c16_i32
  let v29 : Index := Scalar.indexCast v28
  ![v29.toNat]
def k0_off4 (k0_t1 : Fin k0_t1_loop.trips) : Fin 2 → Nat :=
  let c0_i32_23 : BitVec 32 := 0#32
  let c0_i32_0 : BitVec 32 := 0#32
  let c1_i32 : BitVec 32 := 1#32
  let arg10 : BitVec 32 := Scf.iv c0_i32_0 c1_i32 k0_t1
  let c1_i32_22 : BitVec 32 := 1#32
  let v23 : BitVec 32 := Scalar.muli arg10 c1_i32_22
  let v24 : BitVec 32 := Scalar.addi c0_i32_23 v23
  let v31 : Index := Scalar.indexCast v24
  let c0_25 : Index := 0#32
  ![v31.toNat, 0]

def k0_chk1 (v38 : IVec S16 32) : Prop :=
  (∀ a x, ((![v38] : Fin 1 → IVec S16 32) a x).toNat < S16384.size a)
theorem k0_idx1_inb : ∀ (v38 : IVec S16 32) (k0_hw1 : k0_chk1 v38), ∀ a x, ((![v38] : Fin 1 → IVec S16 32) a x).toNat < S16384.size a := fun v38 k0_hw1 => k0_hw1
def k0_off5 (k0_t1 : Fin k0_t1_loop.trips) : Fin 2 → Nat :=
  let c0_i32_23 : BitVec 32 := 0#32
  let c0_i32_0 : BitVec 32 := 0#32
  let c1_i32 : BitVec 32 := 1#32
  let arg10 : BitVec 32 := Scf.iv c0_i32_0 c1_i32 k0_t1
  let c1_i32_22 : BitVec 32 := 1#32
  let v23 : BitVec 32 := Scalar.muli arg10 c1_i32_22
  let v24 : BitVec 32 := Scalar.addi c0_i32_23 v23
  let v39 : Index := Scalar.indexCast v24
  let c16 : Index := 16#32
  ![v39.toNat, 16]

def k0_chk2 (v46 : IVec S16 32) : Prop :=
  (∀ a x, ((![v46] : Fin 1 → IVec S16 32) a x).toNat < S16384.size a)
theorem k0_idx2_inb : ∀ (v46 : IVec S16 32) (k0_hw2 : k0_chk2 v46), ∀ a x, ((![v46] : Fin 1 → IVec S16 32) a x).toNat < S16384.size a := fun v46 k0_hw2 => k0_hw2
def k0_off6 (k0_t1 : Fin k0_t1_loop.trips) : Fin 2 → Nat :=
  let c0_i32_23 : BitVec 32 := 0#32
  let c0_i32_0 : BitVec 32 := 0#32
  let c1_i32 : BitVec 32 := 1#32
  let arg10 : BitVec 32 := Scf.iv c0_i32_0 c1_i32 k0_t1
  let c1_i32_22 : BitVec 32 := 1#32
  let v23 : BitVec 32 := Scalar.muli arg10 c1_i32_22
  let v24 : BitVec 32 := Scalar.addi c0_i32_23 v23
  let v47 : Index := Scalar.indexCast v24
  let c32 : Index := 32#32
  ![v47.toNat, 32]

def k0_chk3 (v54 : IVec S16 32) : Prop :=
  (∀ a x, ((![v54] : Fin 1 → IVec S16 32) a x).toNat < S16384.size a)
theorem k0_idx3_inb : ∀ (v54 : IVec S16 32) (k0_hw3 : k0_chk3 v54), ∀ a x, ((![v54] : Fin 1 → IVec S16 32) a x).toNat < S16384.size a := fun v54 k0_hw3 => k0_hw3
def k0_off7 (k0_t1 : Fin k0_t1_loop.trips) : Fin 2 → Nat :=
  let c0_i32_23 : BitVec 32 := 0#32
  let c0_i32_0 : BitVec 32 := 0#32
  let c1_i32 : BitVec 32 := 1#32
  let arg10 : BitVec 32 := Scf.iv c0_i32_0 c1_i32 k0_t1
  let c1_i32_22 : BitVec 32 := 1#32
  let v23 : BitVec 32 := Scalar.muli arg10 c1_i32_22
  let v24 : BitVec 32 := Scalar.addi c0_i32_23 v23
  let v55 : Index := Scalar.indexCast v24
  let c48 : Index := 48#32
  ![v55.toNat, 48]

def k0_chk4 (v62 : IVec S16 32) : Prop :=
  (∀ a x, ((![v62] : Fin 1 → IVec S16 32) a x).toNat < S16384.size a)
theorem k0_idx4_inb : ∀ (v62 : IVec S16 32) (k0_hw4 : k0_chk4 v62), ∀ a x, ((![v62] : Fin 1 → IVec S16 32) a x).toNat < S16384.size a := fun v62 k0_hw4 => k0_hw4
def k0_off8 (k0_t1 : Fin k0_t1_loop.trips) : Fin 2 → Nat :=
  let c0_i32_23 : BitVec 32 := 0#32
  let c0_i32_0 : BitVec 32 := 0#32
  let c1_i32 : BitVec 32 := 1#32
  let arg10 : BitVec 32 := Scf.iv c0_i32_0 c1_i32 k0_t1
  let c1_i32_22 : BitVec 32 := 1#32
  let v23 : BitVec 32 := Scalar.muli arg10 c1_i32_22
  let v24 : BitVec 32 := Scalar.addi c0_i32_23 v23
  let v63 : Index := Scalar.indexCast v24
  let c64 : Index := 64#32
  ![v63.toNat, 64]

def k0_chk5 (v70 : IVec S16 32) : Prop :=
  (∀ a x, ((![v70] : Fin 1 → IVec S16 32) a x).toNat < S16384.size a)
theorem k0_idx5_inb : ∀ (v70 : IVec S16 32) (k0_hw5 : k0_chk5 v70), ∀ a x, ((![v70] : Fin 1 → IVec S16 32) a x).toNat < S16384.size a := fun v70 k0_hw5 => k0_hw5
def k0_off9 (k0_t1 : Fin k0_t1_loop.trips) : Fin 2 → Nat :=
  let c0_i32_23 : BitVec 32 := 0#32
  let c0_i32_0 : BitVec 32 := 0#32
  let c1_i32 : BitVec 32 := 1#32
  let arg10 : BitVec 32 := Scf.iv c0_i32_0 c1_i32 k0_t1
  let c1_i32_22 : BitVec 32 := 1#32
  let v23 : BitVec 32 := Scalar.muli arg10 c1_i32_22
  let v24 : BitVec 32 := Scalar.addi c0_i32_23 v23
  let v71 : Index := Scalar.indexCast v24
  let c80 : Index := 80#32
  ![v71.toNat, 80]

def k0_chk6 (v78 : IVec S16 32) : Prop :=
  (∀ a x, ((![v78] : Fin 1 → IVec S16 32) a x).toNat < S16384.size a)
theorem k0_idx6_inb : ∀ (v78 : IVec S16 32) (k0_hw6 : k0_chk6 v78), ∀ a x, ((![v78] : Fin 1 → IVec S16 32) a x).toNat < S16384.size a := fun v78 k0_hw6 => k0_hw6
def k0_off10 (k0_t1 : Fin k0_t1_loop.trips) : Fin 2 → Nat :=
  let c0_i32_23 : BitVec 32 := 0#32
  let c0_i32_0 : BitVec 32 := 0#32
  let c1_i32 : BitVec 32 := 1#32
  let arg10 : BitVec 32 := Scf.iv c0_i32_0 c1_i32 k0_t1
  let c1_i32_22 : BitVec 32 := 1#32
  let v23 : BitVec 32 := Scalar.muli arg10 c1_i32_22
  let v24 : BitVec 32 := Scalar.addi c0_i32_23 v23
  let v79 : Index := Scalar.indexCast v24
  let c96 : Index := 96#32
  ![v79.toNat, 96]

def k0_chk7 (v86 : IVec S16 32) : Prop :=
  (∀ a x, ((![v86] : Fin 1 → IVec S16 32) a x).toNat < S16384.size a)
theorem k0_idx7_inb : ∀ (v86 : IVec S16 32) (k0_hw7 : k0_chk7 v86), ∀ a x, ((![v86] : Fin 1 → IVec S16 32) a x).toNat < S16384.size a := fun v86 k0_hw7 => k0_hw7
def k0_off11 (k0_t1 : Fin k0_t1_loop.trips) : Fin 2 → Nat :=
  let c0_i32_23 : BitVec 32 := 0#32
  let c0_i32_0 : BitVec 32 := 0#32
  let c1_i32 : BitVec 32 := 1#32
  let arg10 : BitVec 32 := Scf.iv c0_i32_0 c1_i32 k0_t1
  let c1_i32_22 : BitVec 32 := 1#32
  let v23 : BitVec 32 := Scalar.muli arg10 c1_i32_22
  let v24 : BitVec 32 := Scalar.addi c0_i32_23 v23
  let v87 : Index := Scalar.indexCast v24
  let c112 : Index := 112#32
  ![v87.toNat, 112]

def k0_chk8 (v94 : IVec S16 32) : Prop :=
  (∀ a x, ((![v94] : Fin 1 → IVec S16 32) a x).toNat < S16384.size a)
theorem k0_idx8_inb : ∀ (v94 : IVec S16 32) (k0_hw8 : k0_chk8 v94), ∀ a x, ((![v94] : Fin 1 → IVec S16 32) a x).toNat < S16384.size a := fun v94 k0_hw8 => k0_hw8
def k0_off12 (k0_t1 : Fin k0_t1_loop.trips) : Fin 2 → Nat :=
  let c0_i32_23 : BitVec 32 := 0#32
  let c0_i32_0 : BitVec 32 := 0#32
  let c1_i32 : BitVec 32 := 1#32
  let arg10 : BitVec 32 := Scf.iv c0_i32_0 c1_i32 k0_t1
  let c1_i32_22 : BitVec 32 := 1#32
  let v23 : BitVec 32 := Scalar.muli arg10 c1_i32_22
  let v24 : BitVec 32 := Scalar.addi c0_i32_23 v23
  let v95 : Index := Scalar.indexCast v24
  let c128 : Index := 128#32
  ![v95.toNat, 128]

def k0_chk9 (v102 : IVec S16 32) : Prop :=
  (∀ a x, ((![v102] : Fin 1 → IVec S16 32) a x).toNat < S16384.size a)
theorem k0_idx9_inb : ∀ (v102 : IVec S16 32) (k0_hw9 : k0_chk9 v102), ∀ a x, ((![v102] : Fin 1 → IVec S16 32) a x).toNat < S16384.size a := fun v102 k0_hw9 => k0_hw9
def k0_off13 (k0_t1 : Fin k0_t1_loop.trips) : Fin 2 → Nat :=
  let c0_i32_23 : BitVec 32 := 0#32
  let c0_i32_0 : BitVec 32 := 0#32
  let c1_i32 : BitVec 32 := 1#32
  let arg10 : BitVec 32 := Scf.iv c0_i32_0 c1_i32 k0_t1
  let c1_i32_22 : BitVec 32 := 1#32
  let v23 : BitVec 32 := Scalar.muli arg10 c1_i32_22
  let v24 : BitVec 32 := Scalar.addi c0_i32_23 v23
  let v103 : Index := Scalar.indexCast v24
  let c144 : Index := 144#32
  ![v103.toNat, 144]

def k0_chk10 (v110 : IVec S16 32) : Prop :=
  (∀ a x, ((![v110] : Fin 1 → IVec S16 32) a x).toNat < S16384.size a)
theorem k0_idx10_inb : ∀ (v110 : IVec S16 32) (k0_hw10 : k0_chk10 v110), ∀ a x, ((![v110] : Fin 1 → IVec S16 32) a x).toNat < S16384.size a := fun v110 k0_hw10 => k0_hw10
def k0_off14 (k0_t1 : Fin k0_t1_loop.trips) : Fin 2 → Nat :=
  let c0_i32_23 : BitVec 32 := 0#32
  let c0_i32_0 : BitVec 32 := 0#32
  let c1_i32 : BitVec 32 := 1#32
  let arg10 : BitVec 32 := Scf.iv c0_i32_0 c1_i32 k0_t1
  let c1_i32_22 : BitVec 32 := 1#32
  let v23 : BitVec 32 := Scalar.muli arg10 c1_i32_22
  let v24 : BitVec 32 := Scalar.addi c0_i32_23 v23
  let v111 : Index := Scalar.indexCast v24
  let c160 : Index := 160#32
  ![v111.toNat, 160]

def k0_chk11 (v118 : IVec S16 32) : Prop :=
  (∀ a x, ((![v118] : Fin 1 → IVec S16 32) a x).toNat < S16384.size a)
theorem k0_idx11_inb : ∀ (v118 : IVec S16 32) (k0_hw11 : k0_chk11 v118), ∀ a x, ((![v118] : Fin 1 → IVec S16 32) a x).toNat < S16384.size a := fun v118 k0_hw11 => k0_hw11
def k0_off15 (k0_t1 : Fin k0_t1_loop.trips) : Fin 2 → Nat :=
  let c0_i32_23 : BitVec 32 := 0#32
  let c0_i32_0 : BitVec 32 := 0#32
  let c1_i32 : BitVec 32 := 1#32
  let arg10 : BitVec 32 := Scf.iv c0_i32_0 c1_i32 k0_t1
  let c1_i32_22 : BitVec 32 := 1#32
  let v23 : BitVec 32 := Scalar.muli arg10 c1_i32_22
  let v24 : BitVec 32 := Scalar.addi c0_i32_23 v23
  let v119 : Index := Scalar.indexCast v24
  let c176 : Index := 176#32
  ![v119.toNat, 176]

def k0_chk12 (v126 : IVec S16 32) : Prop :=
  (∀ a x, ((![v126] : Fin 1 → IVec S16 32) a x).toNat < S16384.size a)
theorem k0_idx12_inb : ∀ (v126 : IVec S16 32) (k0_hw12 : k0_chk12 v126), ∀ a x, ((![v126] : Fin 1 → IVec S16 32) a x).toNat < S16384.size a := fun v126 k0_hw12 => k0_hw12
def k0_off16 (k0_t1 : Fin k0_t1_loop.trips) : Fin 2 → Nat :=
  let c0_i32_23 : BitVec 32 := 0#32
  let c0_i32_0 : BitVec 32 := 0#32
  let c1_i32 : BitVec 32 := 1#32
  let arg10 : BitVec 32 := Scf.iv c0_i32_0 c1_i32 k0_t1
  let c1_i32_22 : BitVec 32 := 1#32
  let v23 : BitVec 32 := Scalar.muli arg10 c1_i32_22
  let v24 : BitVec 32 := Scalar.addi c0_i32_23 v23
  let v127 : Index := Scalar.indexCast v24
  let c184 : Index := 184#32
  ![v127.toNat, 184]

def k0_chk13 (v134 : IVec S16 32) : Prop :=
  (∀ a x, ((![v134] : Fin 1 → IVec S16 32) a x).toNat < S16384.size a)
theorem k0_idx13_inb : ∀ (v134 : IVec S16 32) (k0_hw13 : k0_chk13 v134), ∀ a x, ((![v134] : Fin 1 → IVec S16 32) a x).toNat < S16384.size a := fun v134 k0_hw13 => k0_hw13
def k0_off17 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v7 : BitVec 32 := Scalar.muli v1 c512_i32
  let v8 : BitVec 32 := Scalar.addi v7 c0_i32
  let c128_i32_2 : BitVec 32 := 128#32
  let v10 : BitVec 32 := Scalar.muli v8 c128_i32_2
  ![v10.toNat]
@[reducible] def k0_t2_loop : Scf.Loop 32 :=
  let c0_i32_5 : BitVec 32 := 0#32
  let c128_i32_6 : BitVec 32 := 128#32
  let v13 : BitVec 32 := Scalar.addi c0_i32_5 c128_i32_6
  let c1_i32_7 : BitVec 32 := 1#32
  ⟨c0_i32_5, v13, c1_i32_7⟩
def k0_off18 (k0_t2 : Fin k0_t2_loop.trips) : Fin 1 → Nat :=
  let c0_i32_23 : BitVec 32 := 0#32
  let c0_i32_5 : BitVec 32 := 0#32
  let c1_i32_7 : BitVec 32 := 1#32
  let arg10 : BitVec 32 := Scf.iv c0_i32_5 c1_i32_7 k0_t2
  let c1_i32_22 : BitVec 32 := 1#32
  let v23 : BitVec 32 := Scalar.muli arg10 c1_i32_22
  let v24 : BitVec 32 := Scalar.addi c0_i32_23 v23
  let c128_i32_24 : BitVec 32 := 128#32
  let v25 : BitVec 32 := Scalar.muli v24 c128_i32_24
  let v26 : Index := Scalar.indexCast v25
  ![v26.toNat]
def k0_off19 (k0_t2 : Fin k0_t2_loop.trips) : Fin 1 → Nat :=
  let c0_i32_23 : BitVec 32 := 0#32
  let c0_i32_5 : BitVec 32 := 0#32
  let c1_i32_7 : BitVec 32 := 1#32
  let arg10 : BitVec 32 := Scf.iv c0_i32_5 c1_i32_7 k0_t2
  let c1_i32_22 : BitVec 32 := 1#32
  let v23 : BitVec 32 := Scalar.muli arg10 c1_i32_22
  let v24 : BitVec 32 := Scalar.addi c0_i32_23 v23
  let c128_i32_24 : BitVec 32 := 128#32
  let v25 : BitVec 32 := Scalar.muli v24 c128_i32_24
  let c16_i32 : BitVec 32 := 16#32
  let v28 : BitVec 32 := Scalar.addi v25 c16_i32
  let v29 : Index := Scalar.indexCast v28
  ![v29.toNat]
def k0_off20 (k0_t2 : Fin k0_t2_loop.trips) : Fin 2 → Nat :=
  let c0_i32_23 : BitVec 32 := 0#32
  let c0_i32_5 : BitVec 32 := 0#32
  let c1_i32_7 : BitVec 32 := 1#32
  let arg10 : BitVec 32 := Scf.iv c0_i32_5 c1_i32_7 k0_t2
  let c1_i32_22 : BitVec 32 := 1#32
  let v23 : BitVec 32 := Scalar.muli arg10 c1_i32_22
  let v24 : BitVec 32 := Scalar.addi c0_i32_23 v23
  let v31 : Index := Scalar.indexCast v24
  let c0_25 : Index := 0#32
  ![v31.toNat, 0]

def k0_chk14 (v38 : IVec S16 32) : Prop :=
  (∀ a x, ((![v38] : Fin 1 → IVec S16 32) a x).toNat < S16384.size a)
theorem k0_idx14_inb : ∀ (v38 : IVec S16 32) (k0_hw14 : k0_chk14 v38), ∀ a x, ((![v38] : Fin 1 → IVec S16 32) a x).toNat < S16384.size a := fun v38 k0_hw14 => k0_hw14
def k0_off21 (k0_t2 : Fin k0_t2_loop.trips) : Fin 2 → Nat :=
  let c0_i32_23 : BitVec 32 := 0#32
  let c0_i32_5 : BitVec 32 := 0#32
  let c1_i32_7 : BitVec 32 := 1#32
  let arg10 : BitVec 32 := Scf.iv c0_i32_5 c1_i32_7 k0_t2
  let c1_i32_22 : BitVec 32 := 1#32
  let v23 : BitVec 32 := Scalar.muli arg10 c1_i32_22
  let v24 : BitVec 32 := Scalar.addi c0_i32_23 v23
  let v39 : Index := Scalar.indexCast v24
  let c16 : Index := 16#32
  ![v39.toNat, 16]

def k0_chk15 (v46 : IVec S16 32) : Prop :=
  (∀ a x, ((![v46] : Fin 1 → IVec S16 32) a x).toNat < S16384.size a)
theorem k0_idx15_inb : ∀ (v46 : IVec S16 32) (k0_hw15 : k0_chk15 v46), ∀ a x, ((![v46] : Fin 1 → IVec S16 32) a x).toNat < S16384.size a := fun v46 k0_hw15 => k0_hw15
def k0_off22 (k0_t2 : Fin k0_t2_loop.trips) : Fin 2 → Nat :=
  let c0_i32_23 : BitVec 32 := 0#32
  let c0_i32_5 : BitVec 32 := 0#32
  let c1_i32_7 : BitVec 32 := 1#32
  let arg10 : BitVec 32 := Scf.iv c0_i32_5 c1_i32_7 k0_t2
  let c1_i32_22 : BitVec 32 := 1#32
  let v23 : BitVec 32 := Scalar.muli arg10 c1_i32_22
  let v24 : BitVec 32 := Scalar.addi c0_i32_23 v23
  let v47 : Index := Scalar.indexCast v24
  let c32 : Index := 32#32
  ![v47.toNat, 32]

def k0_chk16 (v54 : IVec S16 32) : Prop :=
  (∀ a x, ((![v54] : Fin 1 → IVec S16 32) a x).toNat < S16384.size a)
theorem k0_idx16_inb : ∀ (v54 : IVec S16 32) (k0_hw16 : k0_chk16 v54), ∀ a x, ((![v54] : Fin 1 → IVec S16 32) a x).toNat < S16384.size a := fun v54 k0_hw16 => k0_hw16
def k0_off23 (k0_t2 : Fin k0_t2_loop.trips) : Fin 2 → Nat :=
  let c0_i32_23 : BitVec 32 := 0#32
  let c0_i32_5 : BitVec 32 := 0#32
  let c1_i32_7 : BitVec 32 := 1#32
  let arg10 : BitVec 32 := Scf.iv c0_i32_5 c1_i32_7 k0_t2
  let c1_i32_22 : BitVec 32 := 1#32
  let v23 : BitVec 32 := Scalar.muli arg10 c1_i32_22
  let v24 : BitVec 32 := Scalar.addi c0_i32_23 v23
  let v55 : Index := Scalar.indexCast v24
  let c48 : Index := 48#32
  ![v55.toNat, 48]

def k0_chk17 (v62 : IVec S16 32) : Prop :=
  (∀ a x, ((![v62] : Fin 1 → IVec S16 32) a x).toNat < S16384.size a)
theorem k0_idx17_inb : ∀ (v62 : IVec S16 32) (k0_hw17 : k0_chk17 v62), ∀ a x, ((![v62] : Fin 1 → IVec S16 32) a x).toNat < S16384.size a := fun v62 k0_hw17 => k0_hw17
def k0_off24 (k0_t2 : Fin k0_t2_loop.trips) : Fin 2 → Nat :=
  let c0_i32_23 : BitVec 32 := 0#32
  let c0_i32_5 : BitVec 32 := 0#32
  let c1_i32_7 : BitVec 32 := 1#32
  let arg10 : BitVec 32 := Scf.iv c0_i32_5 c1_i32_7 k0_t2
  let c1_i32_22 : BitVec 32 := 1#32
  let v23 : BitVec 32 := Scalar.muli arg10 c1_i32_22
  let v24 : BitVec 32 := Scalar.addi c0_i32_23 v23
  let v63 : Index := Scalar.indexCast v24
  let c64 : Index := 64#32
  ![v63.toNat, 64]

def k0_chk18 (v70 : IVec S16 32) : Prop :=
  (∀ a x, ((![v70] : Fin 1 → IVec S16 32) a x).toNat < S16384.size a)
theorem k0_idx18_inb : ∀ (v70 : IVec S16 32) (k0_hw18 : k0_chk18 v70), ∀ a x, ((![v70] : Fin 1 → IVec S16 32) a x).toNat < S16384.size a := fun v70 k0_hw18 => k0_hw18
def k0_off25 (k0_t2 : Fin k0_t2_loop.trips) : Fin 2 → Nat :=
  let c0_i32_23 : BitVec 32 := 0#32
  let c0_i32_5 : BitVec 32 := 0#32
  let c1_i32_7 : BitVec 32 := 1#32
  let arg10 : BitVec 32 := Scf.iv c0_i32_5 c1_i32_7 k0_t2
  let c1_i32_22 : BitVec 32 := 1#32
  let v23 : BitVec 32 := Scalar.muli arg10 c1_i32_22
  let v24 : BitVec 32 := Scalar.addi c0_i32_23 v23
  let v71 : Index := Scalar.indexCast v24
  let c80 : Index := 80#32
  ![v71.toNat, 80]

def k0_chk19 (v78 : IVec S16 32) : Prop :=
  (∀ a x, ((![v78] : Fin 1 → IVec S16 32) a x).toNat < S16384.size a)
theorem k0_idx19_inb : ∀ (v78 : IVec S16 32) (k0_hw19 : k0_chk19 v78), ∀ a x, ((![v78] : Fin 1 → IVec S16 32) a x).toNat < S16384.size a := fun v78 k0_hw19 => k0_hw19
def k0_off26 (k0_t2 : Fin k0_t2_loop.trips) : Fin 2 → Nat :=
  let c0_i32_23 : BitVec 32 := 0#32
  let c0_i32_5 : BitVec 32 := 0#32
  let c1_i32_7 : BitVec 32 := 1#32
  let arg10 : BitVec 32 := Scf.iv c0_i32_5 c1_i32_7 k0_t2
  let c1_i32_22 : BitVec 32 := 1#32
  let v23 : BitVec 32 := Scalar.muli arg10 c1_i32_22
  let v24 : BitVec 32 := Scalar.addi c0_i32_23 v23
  let v79 : Index := Scalar.indexCast v24
  let c96 : Index := 96#32
  ![v79.toNat, 96]

def k0_chk20 (v86 : IVec S16 32) : Prop :=
  (∀ a x, ((![v86] : Fin 1 → IVec S16 32) a x).toNat < S16384.size a)
theorem k0_idx20_inb : ∀ (v86 : IVec S16 32) (k0_hw20 : k0_chk20 v86), ∀ a x, ((![v86] : Fin 1 → IVec S16 32) a x).toNat < S16384.size a := fun v86 k0_hw20 => k0_hw20
def k0_off27 (k0_t2 : Fin k0_t2_loop.trips) : Fin 2 → Nat :=
  let c0_i32_23 : BitVec 32 := 0#32
  let c0_i32_5 : BitVec 32 := 0#32
  let c1_i32_7 : BitVec 32 := 1#32
  let arg10 : BitVec 32 := Scf.iv c0_i32_5 c1_i32_7 k0_t2
  let c1_i32_22 : BitVec 32 := 1#32
  let v23 : BitVec 32 := Scalar.muli arg10 c1_i32_22
  let v24 : BitVec 32 := Scalar.addi c0_i32_23 v23
  let v87 : Index := Scalar.indexCast v24
  let c112 : Index := 112#32
  ![v87.toNat, 112]

def k0_chk21 (v94 : IVec S16 32) : Prop :=
  (∀ a x, ((![v94] : Fin 1 → IVec S16 32) a x).toNat < S16384.size a)
theorem k0_idx21_inb : ∀ (v94 : IVec S16 32) (k0_hw21 : k0_chk21 v94), ∀ a x, ((![v94] : Fin 1 → IVec S16 32) a x).toNat < S16384.size a := fun v94 k0_hw21 => k0_hw21
def k0_off28 (k0_t2 : Fin k0_t2_loop.trips) : Fin 2 → Nat :=
  let c0_i32_23 : BitVec 32 := 0#32
  let c0_i32_5 : BitVec 32 := 0#32
  let c1_i32_7 : BitVec 32 := 1#32
  let arg10 : BitVec 32 := Scf.iv c0_i32_5 c1_i32_7 k0_t2
  let c1_i32_22 : BitVec 32 := 1#32
  let v23 : BitVec 32 := Scalar.muli arg10 c1_i32_22
  let v24 : BitVec 32 := Scalar.addi c0_i32_23 v23
  let v95 : Index := Scalar.indexCast v24
  let c128 : Index := 128#32
  ![v95.toNat, 128]

def k0_chk22 (v102 : IVec S16 32) : Prop :=
  (∀ a x, ((![v102] : Fin 1 → IVec S16 32) a x).toNat < S16384.size a)
theorem k0_idx22_inb : ∀ (v102 : IVec S16 32) (k0_hw22 : k0_chk22 v102), ∀ a x, ((![v102] : Fin 1 → IVec S16 32) a x).toNat < S16384.size a := fun v102 k0_hw22 => k0_hw22
def k0_off29 (k0_t2 : Fin k0_t2_loop.trips) : Fin 2 → Nat :=
  let c0_i32_23 : BitVec 32 := 0#32
  let c0_i32_5 : BitVec 32 := 0#32
  let c1_i32_7 : BitVec 32 := 1#32
  let arg10 : BitVec 32 := Scf.iv c0_i32_5 c1_i32_7 k0_t2
  let c1_i32_22 : BitVec 32 := 1#32
  let v23 : BitVec 32 := Scalar.muli arg10 c1_i32_22
  let v24 : BitVec 32 := Scalar.addi c0_i32_23 v23
  let v103 : Index := Scalar.indexCast v24
  let c144 : Index := 144#32
  ![v103.toNat, 144]

def k0_chk23 (v110 : IVec S16 32) : Prop :=
  (∀ a x, ((![v110] : Fin 1 → IVec S16 32) a x).toNat < S16384.size a)
theorem k0_idx23_inb : ∀ (v110 : IVec S16 32) (k0_hw23 : k0_chk23 v110), ∀ a x, ((![v110] : Fin 1 → IVec S16 32) a x).toNat < S16384.size a := fun v110 k0_hw23 => k0_hw23
def k0_off30 (k0_t2 : Fin k0_t2_loop.trips) : Fin 2 → Nat :=
  let c0_i32_23 : BitVec 32 := 0#32
  let c0_i32_5 : BitVec 32 := 0#32
  let c1_i32_7 : BitVec 32 := 1#32
  let arg10 : BitVec 32 := Scf.iv c0_i32_5 c1_i32_7 k0_t2
  let c1_i32_22 : BitVec 32 := 1#32
  let v23 : BitVec 32 := Scalar.muli arg10 c1_i32_22
  let v24 : BitVec 32 := Scalar.addi c0_i32_23 v23
  let v111 : Index := Scalar.indexCast v24
  let c160 : Index := 160#32
  ![v111.toNat, 160]

def k0_chk24 (v118 : IVec S16 32) : Prop :=
  (∀ a x, ((![v118] : Fin 1 → IVec S16 32) a x).toNat < S16384.size a)
theorem k0_idx24_inb : ∀ (v118 : IVec S16 32) (k0_hw24 : k0_chk24 v118), ∀ a x, ((![v118] : Fin 1 → IVec S16 32) a x).toNat < S16384.size a := fun v118 k0_hw24 => k0_hw24
def k0_off31 (k0_t2 : Fin k0_t2_loop.trips) : Fin 2 → Nat :=
  let c0_i32_23 : BitVec 32 := 0#32
  let c0_i32_5 : BitVec 32 := 0#32
  let c1_i32_7 : BitVec 32 := 1#32
  let arg10 : BitVec 32 := Scf.iv c0_i32_5 c1_i32_7 k0_t2
  let c1_i32_22 : BitVec 32 := 1#32
  let v23 : BitVec 32 := Scalar.muli arg10 c1_i32_22
  let v24 : BitVec 32 := Scalar.addi c0_i32_23 v23
  let v119 : Index := Scalar.indexCast v24
  let c176 : Index := 176#32
  ![v119.toNat, 176]

def k0_chk25 (v126 : IVec S16 32) : Prop :=
  (∀ a x, ((![v126] : Fin 1 → IVec S16 32) a x).toNat < S16384.size a)
theorem k0_idx25_inb : ∀ (v126 : IVec S16 32) (k0_hw25 : k0_chk25 v126), ∀ a x, ((![v126] : Fin 1 → IVec S16 32) a x).toNat < S16384.size a := fun v126 k0_hw25 => k0_hw25
def k0_off32 (k0_t2 : Fin k0_t2_loop.trips) : Fin 2 → Nat :=
  let c0_i32_23 : BitVec 32 := 0#32
  let c0_i32_5 : BitVec 32 := 0#32
  let c1_i32_7 : BitVec 32 := 1#32
  let arg10 : BitVec 32 := Scf.iv c0_i32_5 c1_i32_7 k0_t2
  let c1_i32_22 : BitVec 32 := 1#32
  let v23 : BitVec 32 := Scalar.muli arg10 c1_i32_22
  let v24 : BitVec 32 := Scalar.addi c0_i32_23 v23
  let v127 : Index := Scalar.indexCast v24
  let c184 : Index := 184#32
  ![v127.toNat, 184]

def k0_chk26 (v134 : IVec S16 32) : Prop :=
  (∀ a x, ((![v134] : Fin 1 → IVec S16 32) a x).toNat < S16384.size a)
theorem k0_idx26_inb : ∀ (v134 : IVec S16 32) (k0_hw26 : k0_chk26 v134), ∀ a x, ((![v134] : Fin 1 → IVec S16 32) a x).toNat < S16384.size a := fun v134 k0_hw26 => k0_hw26
@[reducible] def k0_t3_loop : Scf.Loop 32 :=
  let c0_i32_11 : BitVec 32 := 0#32
  let c128_i32_12 : BitVec 32 := 128#32
  let v17 : BitVec 32 := Scalar.addi c0_i32_11 c128_i32_12
  let c1_i32_13 : BitVec 32 := 1#32
  ⟨c0_i32_11, v17, c1_i32_13⟩
def k0_off33 (k0_t3 : Fin k0_t3_loop.trips) : Fin 1 → Nat :=
  let c0_i32_23 : BitVec 32 := 0#32
  let c0_i32_11 : BitVec 32 := 0#32
  let c1_i32_13 : BitVec 32 := 1#32
  let arg10 : BitVec 32 := Scf.iv c0_i32_11 c1_i32_13 k0_t3
  let c1_i32_22 : BitVec 32 := 1#32
  let v23 : BitVec 32 := Scalar.muli arg10 c1_i32_22
  let v24 : BitVec 32 := Scalar.addi c0_i32_23 v23
  let c128_i32_24 : BitVec 32 := 128#32
  let v25 : BitVec 32 := Scalar.muli v24 c128_i32_24
  let v26 : Index := Scalar.indexCast v25
  ![v26.toNat]
def k0_off34 (k0_t3 : Fin k0_t3_loop.trips) : Fin 1 → Nat :=
  let c0_i32_23 : BitVec 32 := 0#32
  let c0_i32_11 : BitVec 32 := 0#32
  let c1_i32_13 : BitVec 32 := 1#32
  let arg10 : BitVec 32 := Scf.iv c0_i32_11 c1_i32_13 k0_t3
  let c1_i32_22 : BitVec 32 := 1#32
  let v23 : BitVec 32 := Scalar.muli arg10 c1_i32_22
  let v24 : BitVec 32 := Scalar.addi c0_i32_23 v23
  let c128_i32_24 : BitVec 32 := 128#32
  let v25 : BitVec 32 := Scalar.muli v24 c128_i32_24
  let c16_i32 : BitVec 32 := 16#32
  let v28 : BitVec 32 := Scalar.addi v25 c16_i32
  let v29 : Index := Scalar.indexCast v28
  ![v29.toNat]
def k0_off35 (k0_t3 : Fin k0_t3_loop.trips) : Fin 2 → Nat :=
  let c0_i32_23 : BitVec 32 := 0#32
  let c0_i32_11 : BitVec 32 := 0#32
  let c1_i32_13 : BitVec 32 := 1#32
  let arg10 : BitVec 32 := Scf.iv c0_i32_11 c1_i32_13 k0_t3
  let c1_i32_22 : BitVec 32 := 1#32
  let v23 : BitVec 32 := Scalar.muli arg10 c1_i32_22
  let v24 : BitVec 32 := Scalar.addi c0_i32_23 v23
  let v31 : Index := Scalar.indexCast v24
  let c0_25 : Index := 0#32
  ![v31.toNat, 0]

def k0_chk27 (v38 : IVec S16 32) : Prop :=
  (∀ a x, ((![v38] : Fin 1 → IVec S16 32) a x).toNat < S16384.size a)
theorem k0_idx27_inb : ∀ (v38 : IVec S16 32) (k0_hw27 : k0_chk27 v38), ∀ a x, ((![v38] : Fin 1 → IVec S16 32) a x).toNat < S16384.size a := fun v38 k0_hw27 => k0_hw27
def k0_off36 (k0_t3 : Fin k0_t3_loop.trips) : Fin 2 → Nat :=
  let c0_i32_23 : BitVec 32 := 0#32
  let c0_i32_11 : BitVec 32 := 0#32
  let c1_i32_13 : BitVec 32 := 1#32
  let arg10 : BitVec 32 := Scf.iv c0_i32_11 c1_i32_13 k0_t3
  let c1_i32_22 : BitVec 32 := 1#32
  let v23 : BitVec 32 := Scalar.muli arg10 c1_i32_22
  let v24 : BitVec 32 := Scalar.addi c0_i32_23 v23
  let v39 : Index := Scalar.indexCast v24
  let c16 : Index := 16#32
  ![v39.toNat, 16]

def k0_chk28 (v46 : IVec S16 32) : Prop :=
  (∀ a x, ((![v46] : Fin 1 → IVec S16 32) a x).toNat < S16384.size a)
theorem k0_idx28_inb : ∀ (v46 : IVec S16 32) (k0_hw28 : k0_chk28 v46), ∀ a x, ((![v46] : Fin 1 → IVec S16 32) a x).toNat < S16384.size a := fun v46 k0_hw28 => k0_hw28
def k0_off37 (k0_t3 : Fin k0_t3_loop.trips) : Fin 2 → Nat :=
  let c0_i32_23 : BitVec 32 := 0#32
  let c0_i32_11 : BitVec 32 := 0#32
  let c1_i32_13 : BitVec 32 := 1#32
  let arg10 : BitVec 32 := Scf.iv c0_i32_11 c1_i32_13 k0_t3
  let c1_i32_22 : BitVec 32 := 1#32
  let v23 : BitVec 32 := Scalar.muli arg10 c1_i32_22
  let v24 : BitVec 32 := Scalar.addi c0_i32_23 v23
  let v47 : Index := Scalar.indexCast v24
  let c32 : Index := 32#32
  ![v47.toNat, 32]

def k0_chk29 (v54 : IVec S16 32) : Prop :=
  (∀ a x, ((![v54] : Fin 1 → IVec S16 32) a x).toNat < S16384.size a)
theorem k0_idx29_inb : ∀ (v54 : IVec S16 32) (k0_hw29 : k0_chk29 v54), ∀ a x, ((![v54] : Fin 1 → IVec S16 32) a x).toNat < S16384.size a := fun v54 k0_hw29 => k0_hw29
def k0_off38 (k0_t3 : Fin k0_t3_loop.trips) : Fin 2 → Nat :=
  let c0_i32_23 : BitVec 32 := 0#32
  let c0_i32_11 : BitVec 32 := 0#32
  let c1_i32_13 : BitVec 32 := 1#32
  let arg10 : BitVec 32 := Scf.iv c0_i32_11 c1_i32_13 k0_t3
  let c1_i32_22 : BitVec 32 := 1#32
  let v23 : BitVec 32 := Scalar.muli arg10 c1_i32_22
  let v24 : BitVec 32 := Scalar.addi c0_i32_23 v23
  let v55 : Index := Scalar.indexCast v24
  let c48 : Index := 48#32
  ![v55.toNat, 48]

def k0_chk30 (v62 : IVec S16 32) : Prop :=
  (∀ a x, ((![v62] : Fin 1 → IVec S16 32) a x).toNat < S16384.size a)
theorem k0_idx30_inb : ∀ (v62 : IVec S16 32) (k0_hw30 : k0_chk30 v62), ∀ a x, ((![v62] : Fin 1 → IVec S16 32) a x).toNat < S16384.size a := fun v62 k0_hw30 => k0_hw30
def k0_off39 (k0_t3 : Fin k0_t3_loop.trips) : Fin 2 → Nat :=
  let c0_i32_23 : BitVec 32 := 0#32
  let c0_i32_11 : BitVec 32 := 0#32
  let c1_i32_13 : BitVec 32 := 1#32
  let arg10 : BitVec 32 := Scf.iv c0_i32_11 c1_i32_13 k0_t3
  let c1_i32_22 : BitVec 32 := 1#32
  let v23 : BitVec 32 := Scalar.muli arg10 c1_i32_22
  let v24 : BitVec 32 := Scalar.addi c0_i32_23 v23
  let v63 : Index := Scalar.indexCast v24
  let c64 : Index := 64#32
  ![v63.toNat, 64]

def k0_chk31 (v70 : IVec S16 32) : Prop :=
  (∀ a x, ((![v70] : Fin 1 → IVec S16 32) a x).toNat < S16384.size a)
theorem k0_idx31_inb : ∀ (v70 : IVec S16 32) (k0_hw31 : k0_chk31 v70), ∀ a x, ((![v70] : Fin 1 → IVec S16 32) a x).toNat < S16384.size a := fun v70 k0_hw31 => k0_hw31
def k0_off40 (k0_t3 : Fin k0_t3_loop.trips) : Fin 2 → Nat :=
  let c0_i32_23 : BitVec 32 := 0#32
  let c0_i32_11 : BitVec 32 := 0#32
  let c1_i32_13 : BitVec 32 := 1#32
  let arg10 : BitVec 32 := Scf.iv c0_i32_11 c1_i32_13 k0_t3
  let c1_i32_22 : BitVec 32 := 1#32
  let v23 : BitVec 32 := Scalar.muli arg10 c1_i32_22
  let v24 : BitVec 32 := Scalar.addi c0_i32_23 v23
  let v71 : Index := Scalar.indexCast v24
  let c80 : Index := 80#32
  ![v71.toNat, 80]

def k0_chk32 (v78 : IVec S16 32) : Prop :=
  (∀ a x, ((![v78] : Fin 1 → IVec S16 32) a x).toNat < S16384.size a)
theorem k0_idx32_inb : ∀ (v78 : IVec S16 32) (k0_hw32 : k0_chk32 v78), ∀ a x, ((![v78] : Fin 1 → IVec S16 32) a x).toNat < S16384.size a := fun v78 k0_hw32 => k0_hw32
def k0_off41 (k0_t3 : Fin k0_t3_loop.trips) : Fin 2 → Nat :=
  let c0_i32_23 : BitVec 32 := 0#32
  let c0_i32_11 : BitVec 32 := 0#32
  let c1_i32_13 : BitVec 32 := 1#32
  let arg10 : BitVec 32 := Scf.iv c0_i32_11 c1_i32_13 k0_t3
  let c1_i32_22 : BitVec 32 := 1#32
  let v23 : BitVec 32 := Scalar.muli arg10 c1_i32_22
  let v24 : BitVec 32 := Scalar.addi c0_i32_23 v23
  let v79 : Index := Scalar.indexCast v24
  let c96 : Index := 96#32
  ![v79.toNat, 96]

def k0_chk33 (v86 : IVec S16 32) : Prop :=
  (∀ a x, ((![v86] : Fin 1 → IVec S16 32) a x).toNat < S16384.size a)
theorem k0_idx33_inb : ∀ (v86 : IVec S16 32) (k0_hw33 : k0_chk33 v86), ∀ a x, ((![v86] : Fin 1 → IVec S16 32) a x).toNat < S16384.size a := fun v86 k0_hw33 => k0_hw33
def k0_off42 (k0_t3 : Fin k0_t3_loop.trips) : Fin 2 → Nat :=
  let c0_i32_23 : BitVec 32 := 0#32
  let c0_i32_11 : BitVec 32 := 0#32
  let c1_i32_13 : BitVec 32 := 1#32
  let arg10 : BitVec 32 := Scf.iv c0_i32_11 c1_i32_13 k0_t3
  let c1_i32_22 : BitVec 32 := 1#32
  let v23 : BitVec 32 := Scalar.muli arg10 c1_i32_22
  let v24 : BitVec 32 := Scalar.addi c0_i32_23 v23
  let v87 : Index := Scalar.indexCast v24
  let c112 : Index := 112#32
  ![v87.toNat, 112]

def k0_chk34 (v94 : IVec S16 32) : Prop :=
  (∀ a x, ((![v94] : Fin 1 → IVec S16 32) a x).toNat < S16384.size a)
theorem k0_idx34_inb : ∀ (v94 : IVec S16 32) (k0_hw34 : k0_chk34 v94), ∀ a x, ((![v94] : Fin 1 → IVec S16 32) a x).toNat < S16384.size a := fun v94 k0_hw34 => k0_hw34
def k0_off43 (k0_t3 : Fin k0_t3_loop.trips) : Fin 2 → Nat :=
  let c0_i32_23 : BitVec 32 := 0#32
  let c0_i32_11 : BitVec 32 := 0#32
  let c1_i32_13 : BitVec 32 := 1#32
  let arg10 : BitVec 32 := Scf.iv c0_i32_11 c1_i32_13 k0_t3
  let c1_i32_22 : BitVec 32 := 1#32
  let v23 : BitVec 32 := Scalar.muli arg10 c1_i32_22
  let v24 : BitVec 32 := Scalar.addi c0_i32_23 v23
  let v95 : Index := Scalar.indexCast v24
  let c128 : Index := 128#32
  ![v95.toNat, 128]

def k0_chk35 (v102 : IVec S16 32) : Prop :=
  (∀ a x, ((![v102] : Fin 1 → IVec S16 32) a x).toNat < S16384.size a)
theorem k0_idx35_inb : ∀ (v102 : IVec S16 32) (k0_hw35 : k0_chk35 v102), ∀ a x, ((![v102] : Fin 1 → IVec S16 32) a x).toNat < S16384.size a := fun v102 k0_hw35 => k0_hw35
def k0_off44 (k0_t3 : Fin k0_t3_loop.trips) : Fin 2 → Nat :=
  let c0_i32_23 : BitVec 32 := 0#32
  let c0_i32_11 : BitVec 32 := 0#32
  let c1_i32_13 : BitVec 32 := 1#32
  let arg10 : BitVec 32 := Scf.iv c0_i32_11 c1_i32_13 k0_t3
  let c1_i32_22 : BitVec 32 := 1#32
  let v23 : BitVec 32 := Scalar.muli arg10 c1_i32_22
  let v24 : BitVec 32 := Scalar.addi c0_i32_23 v23
  let v103 : Index := Scalar.indexCast v24
  let c144 : Index := 144#32
  ![v103.toNat, 144]

def k0_chk36 (v110 : IVec S16 32) : Prop :=
  (∀ a x, ((![v110] : Fin 1 → IVec S16 32) a x).toNat < S16384.size a)
theorem k0_idx36_inb : ∀ (v110 : IVec S16 32) (k0_hw36 : k0_chk36 v110), ∀ a x, ((![v110] : Fin 1 → IVec S16 32) a x).toNat < S16384.size a := fun v110 k0_hw36 => k0_hw36
def k0_off45 (k0_t3 : Fin k0_t3_loop.trips) : Fin 2 → Nat :=
  let c0_i32_23 : BitVec 32 := 0#32
  let c0_i32_11 : BitVec 32 := 0#32
  let c1_i32_13 : BitVec 32 := 1#32
  let arg10 : BitVec 32 := Scf.iv c0_i32_11 c1_i32_13 k0_t3
  let c1_i32_22 : BitVec 32 := 1#32
  let v23 : BitVec 32 := Scalar.muli arg10 c1_i32_22
  let v24 : BitVec 32 := Scalar.addi c0_i32_23 v23
  let v111 : Index := Scalar.indexCast v24
  let c160 : Index := 160#32
  ![v111.toNat, 160]

def k0_chk37 (v118 : IVec S16 32) : Prop :=
  (∀ a x, ((![v118] : Fin 1 → IVec S16 32) a x).toNat < S16384.size a)
theorem k0_idx37_inb : ∀ (v118 : IVec S16 32) (k0_hw37 : k0_chk37 v118), ∀ a x, ((![v118] : Fin 1 → IVec S16 32) a x).toNat < S16384.size a := fun v118 k0_hw37 => k0_hw37
def k0_off46 (k0_t3 : Fin k0_t3_loop.trips) : Fin 2 → Nat :=
  let c0_i32_23 : BitVec 32 := 0#32
  let c0_i32_11 : BitVec 32 := 0#32
  let c1_i32_13 : BitVec 32 := 1#32
  let arg10 : BitVec 32 := Scf.iv c0_i32_11 c1_i32_13 k0_t3
  let c1_i32_22 : BitVec 32 := 1#32
  let v23 : BitVec 32 := Scalar.muli arg10 c1_i32_22
  let v24 : BitVec 32 := Scalar.addi c0_i32_23 v23
  let v119 : Index := Scalar.indexCast v24
  let c176 : Index := 176#32
  ![v119.toNat, 176]

def k0_chk38 (v126 : IVec S16 32) : Prop :=
  (∀ a x, ((![v126] : Fin 1 → IVec S16 32) a x).toNat < S16384.size a)
theorem k0_idx38_inb : ∀ (v126 : IVec S16 32) (k0_hw38 : k0_chk38 v126), ∀ a x, ((![v126] : Fin 1 → IVec S16 32) a x).toNat < S16384.size a := fun v126 k0_hw38 => k0_hw38
def k0_off47 (k0_t3 : Fin k0_t3_loop.trips) : Fin 2 → Nat :=
  let c0_i32_23 : BitVec 32 := 0#32
  let c0_i32_11 : BitVec 32 := 0#32
  let c1_i32_13 : BitVec 32 := 1#32
  let arg10 : BitVec 32 := Scf.iv c0_i32_11 c1_i32_13 k0_t3
  let c1_i32_22 : BitVec 32 := 1#32
  let v23 : BitVec 32 := Scalar.muli arg10 c1_i32_22
  let v24 : BitVec 32 := Scalar.addi c0_i32_23 v23
  let v127 : Index := Scalar.indexCast v24
  let c184 : Index := 184#32
  ![v127.toNat, 184]

def k0_chk39 (v134 : IVec S16 32) : Prop :=
  (∀ a x, ((![v134] : Fin 1 → IVec S16 32) a x).toNat < S16384.size a)
theorem k0_idx39_inb : ∀ (v134 : IVec S16 32) (k0_hw39 : k0_chk39 v134), ∀ a x, ((![v134] : Fin 1 → IVec S16 32) a x).toNat < S16384.size a := fun v134 k0_hw39 => k0_hw39
@[reducible] def k0_t4_loop : Scf.Loop 32 :=
  let c0_i32_17 : BitVec 32 := 0#32
  let c128_i32_18 : BitVec 32 := 128#32
  let v21 : BitVec 32 := Scalar.addi c0_i32_17 c128_i32_18
  let c1_i32_19 : BitVec 32 := 1#32
  ⟨c0_i32_17, v21, c1_i32_19⟩
def k0_off48 (k0_t4 : Fin k0_t4_loop.trips) : Fin 1 → Nat :=
  let c0_i32_23 : BitVec 32 := 0#32
  let c0_i32_17 : BitVec 32 := 0#32
  let c1_i32_19 : BitVec 32 := 1#32
  let arg10 : BitVec 32 := Scf.iv c0_i32_17 c1_i32_19 k0_t4
  let c1_i32_22 : BitVec 32 := 1#32
  let v23 : BitVec 32 := Scalar.muli arg10 c1_i32_22
  let v24 : BitVec 32 := Scalar.addi c0_i32_23 v23
  let c128_i32_24 : BitVec 32 := 128#32
  let v25 : BitVec 32 := Scalar.muli v24 c128_i32_24
  let v26 : Index := Scalar.indexCast v25
  ![v26.toNat]
def k0_off49 (k0_t4 : Fin k0_t4_loop.trips) : Fin 1 → Nat :=
  let c0_i32_23 : BitVec 32 := 0#32
  let c0_i32_17 : BitVec 32 := 0#32
  let c1_i32_19 : BitVec 32 := 1#32
  let arg10 : BitVec 32 := Scf.iv c0_i32_17 c1_i32_19 k0_t4
  let c1_i32_22 : BitVec 32 := 1#32
  let v23 : BitVec 32 := Scalar.muli arg10 c1_i32_22
  let v24 : BitVec 32 := Scalar.addi c0_i32_23 v23
  let c128_i32_24 : BitVec 32 := 128#32
  let v25 : BitVec 32 := Scalar.muli v24 c128_i32_24
  let c16_i32 : BitVec 32 := 16#32
  let v28 : BitVec 32 := Scalar.addi v25 c16_i32
  let v29 : Index := Scalar.indexCast v28
  ![v29.toNat]
def k0_off50 (k0_t4 : Fin k0_t4_loop.trips) : Fin 2 → Nat :=
  let c0_i32_23 : BitVec 32 := 0#32
  let c0_i32_17 : BitVec 32 := 0#32
  let c1_i32_19 : BitVec 32 := 1#32
  let arg10 : BitVec 32 := Scf.iv c0_i32_17 c1_i32_19 k0_t4
  let c1_i32_22 : BitVec 32 := 1#32
  let v23 : BitVec 32 := Scalar.muli arg10 c1_i32_22
  let v24 : BitVec 32 := Scalar.addi c0_i32_23 v23
  let v31 : Index := Scalar.indexCast v24
  let c0_25 : Index := 0#32
  ![v31.toNat, 0]

def k0_chk40 (v38 : IVec S16 32) : Prop :=
  (∀ a x, ((![v38] : Fin 1 → IVec S16 32) a x).toNat < S16384.size a)
theorem k0_idx40_inb : ∀ (v38 : IVec S16 32) (k0_hw40 : k0_chk40 v38), ∀ a x, ((![v38] : Fin 1 → IVec S16 32) a x).toNat < S16384.size a := fun v38 k0_hw40 => k0_hw40
def k0_off51 (k0_t4 : Fin k0_t4_loop.trips) : Fin 2 → Nat :=
  let c0_i32_23 : BitVec 32 := 0#32
  let c0_i32_17 : BitVec 32 := 0#32
  let c1_i32_19 : BitVec 32 := 1#32
  let arg10 : BitVec 32 := Scf.iv c0_i32_17 c1_i32_19 k0_t4
  let c1_i32_22 : BitVec 32 := 1#32
  let v23 : BitVec 32 := Scalar.muli arg10 c1_i32_22
  let v24 : BitVec 32 := Scalar.addi c0_i32_23 v23
  let v39 : Index := Scalar.indexCast v24
  let c16 : Index := 16#32
  ![v39.toNat, 16]

def k0_chk41 (v46 : IVec S16 32) : Prop :=
  (∀ a x, ((![v46] : Fin 1 → IVec S16 32) a x).toNat < S16384.size a)
theorem k0_idx41_inb : ∀ (v46 : IVec S16 32) (k0_hw41 : k0_chk41 v46), ∀ a x, ((![v46] : Fin 1 → IVec S16 32) a x).toNat < S16384.size a := fun v46 k0_hw41 => k0_hw41
def k0_off52 (k0_t4 : Fin k0_t4_loop.trips) : Fin 2 → Nat :=
  let c0_i32_23 : BitVec 32 := 0#32
  let c0_i32_17 : BitVec 32 := 0#32
  let c1_i32_19 : BitVec 32 := 1#32
  let arg10 : BitVec 32 := Scf.iv c0_i32_17 c1_i32_19 k0_t4
  let c1_i32_22 : BitVec 32 := 1#32
  let v23 : BitVec 32 := Scalar.muli arg10 c1_i32_22
  let v24 : BitVec 32 := Scalar.addi c0_i32_23 v23
  let v47 : Index := Scalar.indexCast v24
  let c32 : Index := 32#32
  ![v47.toNat, 32]

def k0_chk42 (v54 : IVec S16 32) : Prop :=
  (∀ a x, ((![v54] : Fin 1 → IVec S16 32) a x).toNat < S16384.size a)
theorem k0_idx42_inb : ∀ (v54 : IVec S16 32) (k0_hw42 : k0_chk42 v54), ∀ a x, ((![v54] : Fin 1 → IVec S16 32) a x).toNat < S16384.size a := fun v54 k0_hw42 => k0_hw42
def k0_off53 (k0_t4 : Fin k0_t4_loop.trips) : Fin 2 → Nat :=
  let c0_i32_23 : BitVec 32 := 0#32
  let c0_i32_17 : BitVec 32 := 0#32
  let c1_i32_19 : BitVec 32 := 1#32
  let arg10 : BitVec 32 := Scf.iv c0_i32_17 c1_i32_19 k0_t4
  let c1_i32_22 : BitVec 32 := 1#32
  let v23 : BitVec 32 := Scalar.muli arg10 c1_i32_22
  let v24 : BitVec 32 := Scalar.addi c0_i32_23 v23
  let v55 : Index := Scalar.indexCast v24
  let c48 : Index := 48#32
  ![v55.toNat, 48]

def k0_chk43 (v62 : IVec S16 32) : Prop :=
  (∀ a x, ((![v62] : Fin 1 → IVec S16 32) a x).toNat < S16384.size a)
theorem k0_idx43_inb : ∀ (v62 : IVec S16 32) (k0_hw43 : k0_chk43 v62), ∀ a x, ((![v62] : Fin 1 → IVec S16 32) a x).toNat < S16384.size a := fun v62 k0_hw43 => k0_hw43
def k0_off54 (k0_t4 : Fin k0_t4_loop.trips) : Fin 2 → Nat :=
  let c0_i32_23 : BitVec 32 := 0#32
  let c0_i32_17 : BitVec 32 := 0#32
  let c1_i32_19 : BitVec 32 := 1#32
  let arg10 : BitVec 32 := Scf.iv c0_i32_17 c1_i32_19 k0_t4
  let c1_i32_22 : BitVec 32 := 1#32
  let v23 : BitVec 32 := Scalar.muli arg10 c1_i32_22
  let v24 : BitVec 32 := Scalar.addi c0_i32_23 v23
  let v63 : Index := Scalar.indexCast v24
  let c64 : Index := 64#32
  ![v63.toNat, 64]

def k0_chk44 (v70 : IVec S16 32) : Prop :=
  (∀ a x, ((![v70] : Fin 1 → IVec S16 32) a x).toNat < S16384.size a)
theorem k0_idx44_inb : ∀ (v70 : IVec S16 32) (k0_hw44 : k0_chk44 v70), ∀ a x, ((![v70] : Fin 1 → IVec S16 32) a x).toNat < S16384.size a := fun v70 k0_hw44 => k0_hw44
def k0_off55 (k0_t4 : Fin k0_t4_loop.trips) : Fin 2 → Nat :=
  let c0_i32_23 : BitVec 32 := 0#32
  let c0_i32_17 : BitVec 32 := 0#32
  let c1_i32_19 : BitVec 32 := 1#32
  let arg10 : BitVec 32 := Scf.iv c0_i32_17 c1_i32_19 k0_t4
  let c1_i32_22 : BitVec 32 := 1#32
  let v23 : BitVec 32 := Scalar.muli arg10 c1_i32_22
  let v24 : BitVec 32 := Scalar.addi c0_i32_23 v23
  let v71 : Index := Scalar.indexCast v24
  let c80 : Index := 80#32
  ![v71.toNat, 80]

def k0_chk45 (v78 : IVec S16 32) : Prop :=
  (∀ a x, ((![v78] : Fin 1 → IVec S16 32) a x).toNat < S16384.size a)
theorem k0_idx45_inb : ∀ (v78 : IVec S16 32) (k0_hw45 : k0_chk45 v78), ∀ a x, ((![v78] : Fin 1 → IVec S16 32) a x).toNat < S16384.size a := fun v78 k0_hw45 => k0_hw45
def k0_off56 (k0_t4 : Fin k0_t4_loop.trips) : Fin 2 → Nat :=
  let c0_i32_23 : BitVec 32 := 0#32
  let c0_i32_17 : BitVec 32 := 0#32
  let c1_i32_19 : BitVec 32 := 1#32
  let arg10 : BitVec 32 := Scf.iv c0_i32_17 c1_i32_19 k0_t4
  let c1_i32_22 : BitVec 32 := 1#32
  let v23 : BitVec 32 := Scalar.muli arg10 c1_i32_22
  let v24 : BitVec 32 := Scalar.addi c0_i32_23 v23
  let v79 : Index := Scalar.indexCast v24
  let c96 : Index := 96#32
  ![v79.toNat, 96]

def k0_chk46 (v86 : IVec S16 32) : Prop :=
  (∀ a x, ((![v86] : Fin 1 → IVec S16 32) a x).toNat < S16384.size a)
theorem k0_idx46_inb : ∀ (v86 : IVec S16 32) (k0_hw46 : k0_chk46 v86), ∀ a x, ((![v86] : Fin 1 → IVec S16 32) a x).toNat < S16384.size a := fun v86 k0_hw46 => k0_hw46
def k0_off57 (k0_t4 : Fin k0_t4_loop.trips) : Fin 2 → Nat :=
  let c0_i32_23 : BitVec 32 := 0#32
  let c0_i32_17 : BitVec 32 := 0#32
  let c1_i32_19 : BitVec 32 := 1#32
  let arg10 : BitVec 32 := Scf.iv c0_i32_17 c1_i32_19 k0_t4
  let c1_i32_22 : BitVec 32 := 1#32
  let v23 : BitVec 32 := Scalar.muli arg10 c1_i32_22
  let v24 : BitVec 32 := Scalar.addi c0_i32_23 v23
  let v87 : Index := Scalar.indexCast v24
  let c112 : Index := 112#32
  ![v87.toNat, 112]

def k0_chk47 (v94 : IVec S16 32) : Prop :=
  (∀ a x, ((![v94] : Fin 1 → IVec S16 32) a x).toNat < S16384.size a)
theorem k0_idx47_inb : ∀ (v94 : IVec S16 32) (k0_hw47 : k0_chk47 v94), ∀ a x, ((![v94] : Fin 1 → IVec S16 32) a x).toNat < S16384.size a := fun v94 k0_hw47 => k0_hw47
def k0_off58 (k0_t4 : Fin k0_t4_loop.trips) : Fin 2 → Nat :=
  let c0_i32_23 : BitVec 32 := 0#32
  let c0_i32_17 : BitVec 32 := 0#32
  let c1_i32_19 : BitVec 32 := 1#32
  let arg10 : BitVec 32 := Scf.iv c0_i32_17 c1_i32_19 k0_t4
  let c1_i32_22 : BitVec 32 := 1#32
  let v23 : BitVec 32 := Scalar.muli arg10 c1_i32_22
  let v24 : BitVec 32 := Scalar.addi c0_i32_23 v23
  let v95 : Index := Scalar.indexCast v24
  let c128 : Index := 128#32
  ![v95.toNat, 128]

def k0_chk48 (v102 : IVec S16 32) : Prop :=
  (∀ a x, ((![v102] : Fin 1 → IVec S16 32) a x).toNat < S16384.size a)
theorem k0_idx48_inb : ∀ (v102 : IVec S16 32) (k0_hw48 : k0_chk48 v102), ∀ a x, ((![v102] : Fin 1 → IVec S16 32) a x).toNat < S16384.size a := fun v102 k0_hw48 => k0_hw48
def k0_off59 (k0_t4 : Fin k0_t4_loop.trips) : Fin 2 → Nat :=
  let c0_i32_23 : BitVec 32 := 0#32
  let c0_i32_17 : BitVec 32 := 0#32
  let c1_i32_19 : BitVec 32 := 1#32
  let arg10 : BitVec 32 := Scf.iv c0_i32_17 c1_i32_19 k0_t4
  let c1_i32_22 : BitVec 32 := 1#32
  let v23 : BitVec 32 := Scalar.muli arg10 c1_i32_22
  let v24 : BitVec 32 := Scalar.addi c0_i32_23 v23
  let v103 : Index := Scalar.indexCast v24
  let c144 : Index := 144#32
  ![v103.toNat, 144]

def k0_chk49 (v110 : IVec S16 32) : Prop :=
  (∀ a x, ((![v110] : Fin 1 → IVec S16 32) a x).toNat < S16384.size a)
theorem k0_idx49_inb : ∀ (v110 : IVec S16 32) (k0_hw49 : k0_chk49 v110), ∀ a x, ((![v110] : Fin 1 → IVec S16 32) a x).toNat < S16384.size a := fun v110 k0_hw49 => k0_hw49
def k0_off60 (k0_t4 : Fin k0_t4_loop.trips) : Fin 2 → Nat :=
  let c0_i32_23 : BitVec 32 := 0#32
  let c0_i32_17 : BitVec 32 := 0#32
  let c1_i32_19 : BitVec 32 := 1#32
  let arg10 : BitVec 32 := Scf.iv c0_i32_17 c1_i32_19 k0_t4
  let c1_i32_22 : BitVec 32 := 1#32
  let v23 : BitVec 32 := Scalar.muli arg10 c1_i32_22
  let v24 : BitVec 32 := Scalar.addi c0_i32_23 v23
  let v111 : Index := Scalar.indexCast v24
  let c160 : Index := 160#32
  ![v111.toNat, 160]

def k0_chk50 (v118 : IVec S16 32) : Prop :=
  (∀ a x, ((![v118] : Fin 1 → IVec S16 32) a x).toNat < S16384.size a)
theorem k0_idx50_inb : ∀ (v118 : IVec S16 32) (k0_hw50 : k0_chk50 v118), ∀ a x, ((![v118] : Fin 1 → IVec S16 32) a x).toNat < S16384.size a := fun v118 k0_hw50 => k0_hw50
def k0_off61 (k0_t4 : Fin k0_t4_loop.trips) : Fin 2 → Nat :=
  let c0_i32_23 : BitVec 32 := 0#32
  let c0_i32_17 : BitVec 32 := 0#32
  let c1_i32_19 : BitVec 32 := 1#32
  let arg10 : BitVec 32 := Scf.iv c0_i32_17 c1_i32_19 k0_t4
  let c1_i32_22 : BitVec 32 := 1#32
  let v23 : BitVec 32 := Scalar.muli arg10 c1_i32_22
  let v24 : BitVec 32 := Scalar.addi c0_i32_23 v23
  let v119 : Index := Scalar.indexCast v24
  let c176 : Index := 176#32
  ![v119.toNat, 176]

def k0_chk51 (v126 : IVec S16 32) : Prop :=
  (∀ a x, ((![v126] : Fin 1 → IVec S16 32) a x).toNat < S16384.size a)
theorem k0_idx51_inb : ∀ (v126 : IVec S16 32) (k0_hw51 : k0_chk51 v126), ∀ a x, ((![v126] : Fin 1 → IVec S16 32) a x).toNat < S16384.size a := fun v126 k0_hw51 => k0_hw51
def k0_off62 (k0_t4 : Fin k0_t4_loop.trips) : Fin 2 → Nat :=
  let c0_i32_23 : BitVec 32 := 0#32
  let c0_i32_17 : BitVec 32 := 0#32
  let c1_i32_19 : BitVec 32 := 1#32
  let arg10 : BitVec 32 := Scf.iv c0_i32_17 c1_i32_19 k0_t4
  let c1_i32_22 : BitVec 32 := 1#32
  let v23 : BitVec 32 := Scalar.muli arg10 c1_i32_22
  let v24 : BitVec 32 := Scalar.addi c0_i32_23 v23
  let v127 : Index := Scalar.indexCast v24
  let c184 : Index := 184#32
  ![v127.toNat, 184]

def k0_chk52 (v134 : IVec S16 32) : Prop :=
  (∀ a x, ((![v134] : Fin 1 → IVec S16 32) a x).toNat < S16384.size a)
theorem k0_idx52_inb : ∀ (v134 : IVec S16 32) (k0_hw52 : k0_chk52 v134), ∀ a x, ((![v134] : Fin 1 → IVec S16 32) a x).toNat < S16384.size a := fun v134 k0_hw52 => k0_hw52
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S24x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x200 : Shape := ⟨2, ![16384, 200]⟩
abbrev S_ : Shape := ⟨0, ![]⟩
abbrev S24x128 : Shape := ⟨2, ![24, 128]⟩
abbrev S128 : Shape := ⟨1, ![128]⟩
abbrev S16384 : Shape := ⟨1, ![16384]⟩
abbrev S16384x1 : Shape := ⟨2, ![16384, 1]⟩
abbrev S16384x24 : Shape := ⟨2, ![16384, 24]⟩
abbrev S16384x200x1 : Shape := ⟨3, ![16384, 200, 1]⟩
abbrev S16384x200x2 : Shape := ⟨3, ![16384, 200, 2]⟩
abbrev S16384x128 : Shape := ⟨2, ![16384, 128]⟩
abbrev S1x128 : Shape := ⟨2, ![1, 128]⟩

abbrev nBuf : Space → Nat
  | .hbm => 122
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S16384x200, .f32⟩
  | .hbm, ⟨2, _⟩ => ⟨S16384x200, .f32⟩
  | .hbm, ⟨3, _⟩ => ⟨S_, .f32⟩
  | .hbm, ⟨4, _⟩ => ⟨S24x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16384x200, .f32⟩
  | .hbm, ⟨13, _⟩ => ⟨S16384x200, .f32⟩
  | .hbm, ⟨14, _⟩ => ⟨S16384x200, .f32⟩
  | .hbm, ⟨15, _⟩ => ⟨S16384x200, .f32⟩
  | .hbm, ⟨16, _⟩ => ⟨S16384x200, .f32⟩
  | .hbm, ⟨17, _⟩ => ⟨S16384x200, .f32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S16384x200, .i32⟩
  | .hbm, ⟨25, _⟩ => ⟨S16384x200, .i32⟩
  | .hbm, ⟨26, _⟩ => ⟨S_, .i32⟩
  | .hbm, ⟨27, _⟩ => ⟨S16384x200, .i32⟩
  | .hbm, ⟨28, _⟩ => ⟨S16384x200, .i1⟩
  | .hbm, ⟨29, _⟩ => ⟨S_, .i32⟩
  | .hbm, ⟨30, _⟩ => ⟨S16384x200, .i32⟩
  | .hbm, ⟨31, _⟩ => ⟨S16384x200, .i1⟩
  | .hbm, ⟨32, _⟩ => ⟨S_, .i32⟩
  | .hbm, ⟨33, _⟩ => ⟨S_, .i1⟩
  | .hbm, ⟨34, _⟩ => ⟨S16384x200, .i1⟩
  | .hbm, ⟨35, _⟩ => ⟨S16384x200, .i1⟩
  | .hbm, ⟨36, _⟩ => ⟨S16384x200, .i1⟩
  | .hbm, ⟨37, _⟩ => ⟨S16384x200, .i32⟩
  | .hbm, ⟨38, _⟩ => ⟨S16384x200, .i32⟩
  | .hbm, ⟨39, _⟩ => ⟨S16384x200, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S16384x200, .i32⟩
  | .hbm, ⟨44, _⟩ => ⟨S16384x200, .i32⟩
  | .hbm, ⟨45, _⟩ => ⟨S_, .i32⟩
  | .hbm, ⟨46, _⟩ => ⟨S16384x200, .i32⟩
  | .hbm, ⟨47, _⟩ => ⟨S16384x200, .i32⟩
  | .hbm, ⟨48, _⟩ => ⟨S16384, .i32⟩
  | .hbm, ⟨49, _⟩ => ⟨S16384x1, .i32⟩
  | .hbm, ⟨50, _⟩ => ⟨S_, .f32⟩
  | .hbm, ⟨51, _⟩ => ⟨S16384x24, .f32⟩
  | .hbm, ⟨52, _⟩ => ⟨S_, .i32⟩
  | .hbm, ⟨53, _⟩ => ⟨S16384x1, .i32⟩
  | .hbm, ⟨54, _⟩ => ⟨S16384x1, .i1⟩
  | .hbm, ⟨55, _⟩ => ⟨S_, .i32⟩
  | .hbm, ⟨56, _⟩ => ⟨S16384x1, .i32⟩
  | .hbm, ⟨57, _⟩ => ⟨S16384x1, .i32⟩
  | .hbm, ⟨58, _⟩ => ⟨S16384x1, .i32⟩
  | .hbm, ⟨59, _⟩ => ⟨S_, .i32⟩
  | .hbm, ⟨60, _⟩ => ⟨S16384x200, .i32⟩
  | .hbm, ⟨61, _⟩ => ⟨S16384x200, .i1⟩
  | .hbm, ⟨62, _⟩ => ⟨S_, .i32⟩
  | .hbm, ⟨63, _⟩ => ⟨S16384x200, .i32⟩
  | .hbm, ⟨64, _⟩ => ⟨S16384x200, .i32⟩
  | .hbm, ⟨65, _⟩ => ⟨S16384x200, .i32⟩
  | .hbm, ⟨66, _⟩ => ⟨S16384x200, .i32⟩
  | .hbm, ⟨67, _⟩ => ⟨S16384x200x1, .i32⟩
  | .hbm, ⟨68, _⟩ => ⟨S16384x200x1, .i32⟩
  | .hbm, ⟨69, _⟩ => ⟨S16384x200x2, .i32⟩
  | .hbm, ⟨70, _⟩ => ⟨S16384x24, .f32⟩
  | .hbm, ⟨71, _⟩ => ⟨S_, .f32⟩
  | .hbm, ⟨72, _⟩ => ⟨S16384, .f32⟩
  | .hbm, ⟨73, _⟩ => ⟨S16384x1, .f32⟩
  | .hbm, ⟨74, _⟩ => ⟨S_, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S16384x24, .f32⟩
  | .hbm, ⟨79, _⟩ => ⟨S16384x24, .f32⟩
  | .hbm, ⟨80, _⟩ => ⟨S16384x128, .f32⟩
  | .hbm, ⟨81, _⟩ => ⟨S1x128, .f32⟩
  | .hbm, ⟨82, _⟩ => ⟨S16384x128, .f32⟩
  | .hbm, ⟨83, _⟩ => ⟨S16384x128, .f32⟩
  | .hbm, ⟨84, _⟩ => ⟨S_, .f32⟩
  | .hbm, ⟨85, _⟩ => ⟨S16384, .f32⟩
  | .hbm, ⟨86, _⟩ => ⟨S16384x1, .f32⟩
  | .hbm, ⟨87, _⟩ => ⟨S_, .f32⟩
  | .hbm, ⟨88, _⟩ => ⟨S16384x1, .f32⟩
  | .hbm, ⟨89, _⟩ => ⟨S16384x1, .f32⟩
  | .hbm, ⟨90, _⟩ => ⟨S16384x128, .f32⟩
  | .hbm, ⟨91, _⟩ => ⟨S16384x128, .f32⟩
  | .hbm, ⟨92, _⟩ => ⟨S16384x128, .f32⟩
  | .hbm, ⟨93, _⟩ => ⟨S_, .f32⟩
  | .hbm, ⟨94, _⟩ => ⟨S16384, .f32⟩
  | .hbm, ⟨95, _⟩ => ⟨S16384x1, .f32⟩
  | .hbm, ⟨96, _⟩ => ⟨S_, .f32⟩
  | .hbm, ⟨97, _⟩ => ⟨S16384x1, .f32⟩
  | .hbm, ⟨98, _⟩ => ⟨S16384x1, .f32⟩
  | .hbm, ⟨99, _⟩ => ⟨S16384x128, .f32⟩
  | .hbm, ⟨100, _⟩ => ⟨S16384x128, .f32⟩
  | .hbm, ⟨101, _⟩ => ⟨S_, .f32⟩
  | .hbm, ⟨102, _⟩ => ⟨S16384x1, .f32⟩
  | .hbm, ⟨103, _⟩ => ⟨S16384x1, .f32⟩
  | .hbm, ⟨104, _⟩ => ⟨S16384x1, .f32⟩
  | .hbm, ⟨105, _⟩ => ⟨S16384x128, .f32⟩
  | .hbm, ⟨106, _⟩ => ⟨S16384x128, .f32⟩
  | .hbm, ⟨107, _⟩ => ⟨S1x128, .f32⟩
  | .hbm, ⟨108, _⟩ => ⟨S16384x128, .f32⟩
  | .hbm, ⟨109, _⟩ => ⟨S16384x128, .f32⟩
  | .hbm, ⟨110, _⟩ => ⟨S1x128, .f32⟩
  | .hbm, ⟨111, _⟩ => ⟨S16384x128, .f32⟩
  | .hbm, ⟨112, _⟩ => ⟨S16384x128, .f32⟩
  | .hbm, ⟨113, _⟩ => ⟨S_, .f32⟩
  | .hbm, ⟨114, _⟩ => ⟨S16384x128, .f32⟩
  | .hbm, ⟨115, _⟩ => ⟨S16384x128, .f32⟩
  | .hbm, ⟨116, _⟩ => ⟨S16384x128, .f32⟩
  | .hbm, ⟨117, _⟩ => ⟨S_, .f32⟩
  | .hbm, ⟨118, _⟩ => ⟨S16384x128, .f32⟩
  | .hbm, ⟨119, _⟩ => ⟨S16384x128, .f32⟩
  | .hbm, ⟨120, _⟩ => ⟨S16384x128, .f32⟩
  | .hbm, ⟨121, _⟩ => ⟨S16384x128, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_call1_v0 : Ref sig .tc := ⟨.hbm, 19, rfl⟩
abbrev main_call1_c : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_c_1 : Ref sig .tc := ⟨.hbm, 26, rfl⟩
abbrev main_call1_v5 : Ref sig .tc := ⟨.hbm, 27, rfl⟩
abbrev main_call1_v6 : Ref sig .tc := ⟨.hbm, 28, rfl⟩
abbrev main_call1_c_2 : Ref sig .tc := ⟨.hbm, 29, rfl⟩
abbrev main_call1_v7 : Ref sig .tc := ⟨.hbm, 30, rfl⟩
abbrev main_call1_v8 : Ref sig .tc := ⟨.hbm, 31, rfl⟩
abbrev main_call1_c_3 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_v12 : Ref sig .tc := ⟨.hbm, 36, rfl⟩
abbrev main_call1_v13 : Ref sig .tc := ⟨.hbm, 37, rfl⟩
abbrev main_call1_v14 : Ref sig .tc := ⟨.hbm, 38, rfl⟩
abbrev main_v7 : Ref sig .tc := ⟨.hbm, 39, rfl⟩
abbrev main_c_0 : Ref sig .tc := ⟨.hbm, 40, rfl⟩
abbrev main_c_1 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_cst_2 : Ref sig .tc := ⟨.hbm, 50, rfl⟩
abbrev main_v11 : Ref sig .tc := ⟨.hbm, 51, rfl⟩
abbrev main_c_3 : Ref sig .tc := ⟨.hbm, 52, rfl⟩
abbrev main_v12 : Ref sig .tc := ⟨.hbm, 53, rfl⟩
abbrev main_v13 : Ref sig .tc := ⟨.hbm, 54, rfl⟩
abbrev main_c_4 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_c_5 : Ref sig .tc := ⟨.hbm, 59, rfl⟩
abbrev main_v17 : Ref sig .tc := ⟨.hbm, 60, rfl⟩
abbrev main_v18 : Ref sig .tc := ⟨.hbm, 61, rfl⟩
abbrev main_c_6 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_cst_7 : Ref sig .tc := ⟨.hbm, 71, rfl⟩
abbrev main_v27 : Ref sig .tc := ⟨.hbm, 72, rfl⟩
abbrev main_v28 : Ref sig .tc := ⟨.hbm, 73, rfl⟩
abbrev main_cst_8 : Ref sig .tc := ⟨.hbm, 74, rfl⟩
abbrev main_call3_v0 : Ref sig .tc := ⟨.hbm, 75, rfl⟩
abbrev main_call3_v1 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_cst_9 : Ref sig .tc := ⟨.hbm, 84, rfl⟩
abbrev main_v36 : Ref sig .tc := ⟨.hbm, 85, rfl⟩
abbrev main_v37 : Ref sig .tc := ⟨.hbm, 86, rfl⟩
abbrev main_cst_10 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_cst_11 : Ref sig .tc := ⟨.hbm, 93, rfl⟩
abbrev main_v43 : Ref sig .tc := ⟨.hbm, 94, rfl⟩
abbrev main_v44 : Ref sig .tc := ⟨.hbm, 95, rfl⟩
abbrev main_cst_12 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_cst_13 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_cst_14 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_cst_15 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩

abbrev nD : Nat := 1
abbrev τ : Topo := Topo.v7x

variable {F : FTy → Type} [FloatOps F]
-- ==== Proof.Row.lean ====
/-
  One row of a chunk, as a program. The kernel writes the same loop body four times, once per chunk of 128 rows; this
  module states it once. A row's pass clears the row's first 32 places of the table, then takes the row's 200 names and
  elapsed times sixteen at a time: it reads sixteen names and sixteen times, weighs each, and adds the weights into the
  table at the names. 200 is not a multiple of 16, so the thirteenth piece starts at column 184 and only its last eight
  lanes count.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.SL Idealize.SL.Sem

variable {F : FTy → Type} [FloatOps F]

/-- The tile's scratch memories: the fetched names, the fetched times, the table, the decay rate. -/
abbrev sIdx : Memref sig .scVector .vmem S128x200 .i32 := Memref.whole cc0_scratch0
abbrev sDt : Memref sig .scVector .vmem S128x200 .f32 := Memref.whole cc0_scratch1
abbrev sTab : Memref sig .scVector .vmem S16384 .f32 := Memref.whole cc0_scratch2
abbrev sNg : Memref sig .scVector .vmem S16 .f32 := Memref.whole cc0_scratch3

/-- The row's number as the kernel's word, and the word of its first place in the table. -/
abbrev rowW (t : Fin k0_t1_loop.trips) : BitVec 32 := Scalar.addi 0#32 (Scalar.muli (Scf.iv 0#32 1#32 t) 1#32)
abbrev baseW (t : Fin k0_t1_loop.trips) : BitVec 32 := Scalar.muli (rowW t) 128#32

/-- The column at which piece `s` of a row starts. -/
def pieceCol : Fin 13 → ℕ := ![0, 16, 32, 48, 64, 80, 96, 112, 128, 144, 160, 176, 184]

/-- Where piece `s` of row `t` lies in a chunk. -/
def pieceOff (t : Fin k0_t1_loop.trips) (s : Fin 13) : Fin 2 → ℕ := ![(rowW t).toNat, pieceCol s]

theorem rowW_toNat (t : Fin k0_t1_loop.trips) : (rowW t).toNat = t.val := by
  have h : t.val < 128 := lt_of_lt_of_eq t.isLt (by decide)
  simp [rowW, Scalar.addi, Scalar.muli, Scf.iv, IntOp.addi, IntOp.muli]
  omega

theorem pieceOff_inb (t : Fin k0_t1_loop.trips) (s : Fin 13) : ∀ a, pieceOff t s a + S1x16.size a ≤ S128x200.size a := by
  have h : t.val < 128 := lt_of_lt_of_eq t.isLt (by decide)
  intro a
  unfold pieceOff
  rw [rowW_toNat]
  fin_cases a
  · show t.val + 1 ≤ 128; omega
  · show pieceCol s + 16 ≤ 200
    revert s; decide

/-- The lanes of a piece that count: all of them, but for the last piece, whose first eight were counted already. -/
def tailMask : IVec S16 1 := cmpi .sge (iota .scVector S16 32 [0] iota_S16_d0_w32_scVector) (broadcast S16 8#32)
def pieceMask : Fin 13 → IVec S16 1 :=
  ![fun _ => 1#1, fun _ => 1#1, fun _ => 1#1, fun _ => 1#1, fun _ => 1#1, fun _ => 1#1, fun _ => 1#1, fun _ => 1#1,
    fun _ => 1#1, fun _ => 1#1, fun _ => 1#1, fun _ => 1#1, tailMask]

variable {c : Fin τ.nSC} {j : Fin τ.nSub}

abbrev Tile (F : FTy → Type) (c : Fin τ.nSC) (j : Fin τ.nSub) (α : Type) := Prog (TpuEff nD τ sig (Elt F) Λ₀ (.scVector c j)) α

/-- The places of the table that a piece's names give, and the weights its times give. -/
def pieceIdx (t : Fin k0_t1_loop.trips) (iv : Vec F S1x16 .i32) : IVec S16 32 :=
  addi (broadcast S16 (baseW t)) (shapeCast S16 iv shapeCasts_S1x16_S16)
def pieceWt (v2 : Vec F S16 .f32) (dv : Vec F S1x16 .f32) : FVec F S16 .f32 :=
  exp (mulf (shapeCast S16 dv shapeCasts_S1x16_S16) v2)

/-- One piece: read the names and the times, check that the places are in the table, add the weights there. -/
def piece (v2 : Vec F S16 .f32) (t : Fin k0_t1_loop.trips) (s : Fin 13) : Tile F c j PUnit := do
  let iv : Vec F S1x16 .i32 ← Prog.lift (.load sIdx (Rect.unit (s := S128x200) (pieceOff t s) S1x16.size (pieceOff_inb t s)).toLoadRect (View.loadsAt_vmem h_S1x16))
  let dv : Vec F S1x16 .f32 ← Prog.lift (.load sDt (Rect.unit (s := S128x200) (pieceOff t s) S1x16.size (pieceOff_inb t s)).toLoadRect (View.loadsAt_vmem h_S1x16))
  have hw : k0_chk1 (pieceIdx (F := F) t iv) := (← Prog.lift (TpuEff.assume (k0_chk1 (pieceIdx (F := F) t iv)) (k0_chk1.dec (pieceIdx (F := F) t iv)))).down
  SparseCore.vectorStoreIdx sTab ![pieceIdx (F := F) t iv] (pieceWt v2 dv) (pieceMask s) true (k0_idx1_inb _ hw) (View.stores_vmem_bits_univ h_S16384 rfl)

/-- The pieces in turn. -/
def pieces (v2 : Vec F S16 .f32) (t : Fin k0_t1_loop.trips) : List (Fin 13) → Tile F c j PUnit
  | [] => pure ⟨⟩
  | s :: l => do
    piece v2 t s
    pieces v2 t l

/-- A row's pass: its first 32 places cleared, then its pieces. -/
def rowPass (v2 : Vec F S16 .f32) (v4 : FVec F S16 .f32) (t : Fin k0_t1_loop.trips) : Tile F c j PUnit := do
  let _ : Vec F S16 .f32 ← Prog.lift (.load sTab (Rect.unit (s := S16384) (k0_off2 t) S16.size (k0_off2_inb t)).toLoadRect (View.loadsAt_vmem h_S16))
  Prog.lift (.store sTab (Rect.unit (s := S16384) (k0_off2 t) S16.size (k0_off2_inb t)) v4 Finset.univ (View.stores_vmem_bits_univ h_S16 rfl) (.inl rfl))
  let _ : Vec F S16 .f32 ← Prog.lift (.load sTab (Rect.unit (s := S16384) (k0_off3 t) S16.size (k0_off3_inb t)).toLoadRect (View.loadsAt_vmem h_S16))
  Prog.lift (.store sTab (Rect.unit (s := S16384) (k0_off3 t) S16.size (k0_off3_inb t)) v4 Finset.univ (View.stores_vmem_bits_univ h_S16 rfl) (.inl rfl))
  pieces v2 t [0, 1, 2, 3, 4, 5, 6, 7, 8, 9, 10, 11, 12]

end Cert.Proof
-- ==== Proof.Hist.lean ====
/-
  What a row's pass computes, as plain functions: the adding of a piece's sixteen weights at one place of the table, the
  adding of a row's thirteen pieces, and the table after the passes over the first rows of a chunk.
-/
module

public import proofs.«01_k».proof.Proof.Row

@[expose] public section

noncomputable section

namespace Cert.Proof

open Cert.KernelIdeal Cert.KernelIdeal.Gen

open Idealize.ShloMosaic

variable {F : FTy → Type} [FloatOps F]

/-- A store with adding, read at one place: the lanes that count and name the place, added in the lanes' order. -/
theorem storeIdx_add_apply {s : Shape} {d : Fin 1 → Nat} (f : Vec F s .f32) (idxs : Fin s.rank → IVec ⟨1, d⟩ 32)
    (v : Vec F ⟨1, d⟩ .f32) (mask : IVec ⟨1, d⟩ 1) (h : ∀ a x, (idxs a x).toNat < s.size a) (p : s.Idx) :
    storeIdx (F := F) (e := .f32) f idxs v mask true h p
      = (List.finRange (d 0)).foldl (fun acc k =>
          if mask (Shape.ofLane k) = 1 ∧ ∀ a, (p a).val = (idxs a (Shape.ofLane k)).toNat
          then FloatOps.idxAddf acc (v (Shape.ofLane k)) else acc) (f p) := by
  unfold storeIdx
  generalize List.finRange (d 0) = l
  induction l generalizing f with
  | nil => rfl
  | cons k l ih =>
    rw [List.foldl_cons, List.foldl_cons, ih]
    congr 1
    by_cases hm : mask (Shape.ofLane k) = 1
    · simp only [hm, if_true, true_and]
      by_cases hp : ∀ a, (p a).val = (idxs a (Shape.ofLane k)).toNat
      · have hi : p = idxAt idxs h (Shape.ofLane k) := funext fun a => Fin.ext (hp a)
        rw [if_pos hp, if_pos (show ∀ a, (p a).val = (idxAt idxs h (Shape.ofLane k) a).val from hp), ← hi]
        rfl
      · rw [if_neg hp, if_neg (show ¬ ∀ a, (p a).val = (idxAt idxs h (Shape.ofLane k) a).val from hp)]
    · rw [if_neg hm, if_neg (fun e => hm e.1)]

/-- The column of lane `k` of piece `s`. -/
def laneCol (s : Fin 13) (k : Fin 16) : Fin 200 :=
  ⟨pieceCol s + k.val, by
    have h : pieceCol s ≤ 184 := by revert s; decide
    have := k.isLt; omega⟩

/-- The weight of an event: the exponential of the elapsed time by the decay rate. -/
abbrev weight (x r : F .f32) : F .f32 := FloatOps.exp (FloatOps.mulf x r)

/-- Whether lane `k` of piece `s` counts. -/
abbrev laneOn (s : Fin 13) (k : Fin 16) : Prop := pieceMask s (Shape.ofLane (d := ![16]) k) = 1#1

/-- Piece `s` added onto `acc`, for the events whose place `at_` is `p`. -/
def addPiece (at_ : Fin 200 → ℕ) (dt : Fin 200 → F .f32) (v2 : Vec F S16 .f32) (p : ℕ) (acc : F .f32) (s : Fin 13) : F .f32 :=
  (List.finRange 16).foldl (fun acc k =>
    if laneOn s k ∧ p = at_ (laneCol s k)
    then FloatOps.idxAddf acc (weight (dt (laneCol s k)) (v2 (Shape.ofLane (d := ![16]) k))) else acc) acc

/-- All thirteen pieces, in order. -/
abbrev allPieces : List (Fin 13) := [0, 1, 2, 3, 4, 5, 6, 7, 8, 9, 10, 11, 12]

/-- The zero the kernel clears its table with. -/
abbrev zeroF : F .f32 := Scalar.ofBits .f32 0x00000000#32

/-- The total weight at bin `b` of a row with names `nm` and times `dt`, as the kernel adds it up. -/
def bin (nm : Fin 200 → BitVec 32) (dt : Fin 200 → F .f32) (v2 : Vec F S16 .f32) (b : ℕ) : F .f32 :=
  allPieces.foldl (addPiece (fun j => (nm j).toNat) dt v2 b) zeroF

/-- A place no event of the row has is not changed. -/
theorem addPieces_off (at_ : Fin 200 → ℕ) (dt : Fin 200 → F .f32) (v2 : Vec F S16 .f32) (p : ℕ) (h : ∀ j, p ≠ at_ j)
    (l : List (Fin 13)) (acc : F .f32) : l.foldl (addPiece at_ dt v2 p) acc = acc := by
  induction l generalizing acc with
  | nil => rfl
  | cons s l ih =>
    rw [List.foldl_cons, ih]
    unfold addPiece
    generalize List.finRange 16 = ks
    induction ks generalizing acc with
    | nil => rfl
    | cons k ks ihk => rw [List.foldl_cons, if_neg (fun e => h _ e.2), ihk]

/-- Moving the places and the place asked for by the same amount changes nothing. -/
theorem addPieces_shift (o : ℕ) (at_ : Fin 200 → ℕ) (dt : Fin 200 → F .f32) (v2 : Vec F S16 .f32) (b : ℕ)
    (l : List (Fin 13)) (acc : F .f32) :
    l.foldl (addPiece (fun j => o + at_ j) dt v2 (o + b)) acc = l.foldl (addPiece at_ dt v2 b) acc := by
  have h : addPiece (fun j => o + at_ j) dt v2 (o + b) = addPiece at_ dt v2 b := by
    funext acc s; unfold addPiece; simp only [Nat.add_left_cancel_iff]
  rw [h]

/-! ## A chunk's rows and the table -/

/-- An index of a chunk, of the table and of a row of sixteen. -/
abbrev cell (r : Fin 128) (j : Fin 200) : S128x200.Idx := Fin.cons r (Fin.cons j fun a => a.elim0)
abbrev place (p : Fin 16384) : S16384.Idx := Fin.cons p fun a => a.elim0

/-- Row `t` of a chunk's names and times. -/
abbrev rowNames (fi : Vec F S128x200 .i32) (r : Fin 128) : Fin 200 → BitVec 32 := fun j => fi (cell r j)
abbrev rowTimes (fd : Vec F S128x200 .f32) (r : Fin 128) : Fin 200 → F .f32 := fun j => fd (cell r j)

/-- Every name of the chunk is below 24. -/
def NamesOK (fi : Vec F S128x200 .i32) : Prop := ∀ x, (fi x : BitVec 32).toNat < 24

/-- The table after the passes over the first `n` rows: their 24 bins are the rows' totals. -/
def TableOK (fi : Vec F S128x200 .i32) (fd : Vec F S128x200 .f32) (v2 : Vec F S16 .f32) (n : ℕ) (g : Vec F S16384 .f32) : Prop :=
  ∀ (r : Fin 128) (b : Fin 24), r.val < n →
    g (place ⟨128 * r.val + b.val, by omega⟩) = bin (rowNames fi r) (rowTimes fd r) v2 b.val

/-- One more row: a table that had the first `n` rows right, in which row `n` was cleared and its pieces added, has the
    first `n + 1` rows right. -/
theorem TableOK.step {fi : Vec F S128x200 .i32} {fd : Vec F S128x200 .f32} {v2 : Vec F S16 .f32} (r : Fin 128)
    {g g₁ g₂ : Vec F S16384 .f32} (hn : NamesOK fi) (h : TableOK fi fd v2 r.val g)
    (h₁ : ∀ p : Fin 16384, g₁ (place p) = if 128 * r.val ≤ p.val ∧ p.val < 128 * r.val + 32 then zeroF else g (place p))
    (h₂ : ∀ p : Fin 16384, g₂ (place p)
      = allPieces.foldl (addPiece (fun j => 128 * r.val + (rowNames fi r j).toNat) (rowTimes fd r) v2 p.val) (g₁ (place p))) :
    TableOK fi fd v2 (r.val + 1) g₂ := by
  intro r' b hr'
  rw [h₂, h₁]
  rcases Nat.lt_or_ge r'.val r.val with hlt | hge
  · rw [addPieces_off, if_neg (by simp only; omega)]
    · exact h r' b hlt
    · intro j; simp only; omega
  · obtain rfl : r' = r := Fin.ext (by omega)
    rw [if_pos (by simp only; omega)]
    exact addPieces_shift (128 * r'.val) (fun j => (rowNames fi r' j).toNat) (rowTimes fd r') v2 b.val allPieces zeroF

end Cert.Proof
-- ==== Proof.Setup.lean ====
/-
  The program as the launch theorem sees it — one call of the vector subcores and one pipelined TensorCore kernel after
  it — and the algebra its proof keeps its state in: the handshakes' rounds, the TensorCore pipeline's rounds and the
  tiles' transfer counters.
-/
module

public import proofs.«01_k».proof.Proof.Hist
public import Idealize.ShloMosaic.Lib.Pipeline.Kit

@[expose] public section

noncomputable section

namespace Cert.Proof

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

/-- The assertions' model. -/
abbrev MM (F : FTy → Type) : Type := MT nD τ sig (SparseCore.Cfg.HIx 1) (Elt F) ℕ UU ℕ

/-- Where the handshakes' rounds and the pipeline's rounds live in it. -/
abbrev EH : Emb UH (MM F) := embL
abbrev EP : Emb UP (MM F) := (Emb.inl : Emb UP (UP × Counters)).trans embR

end Cert.Proof
-- ==== Proof.Pass.lean ====
/-
  A row's pass, run: from the chunk's names and times and a table in which the rows before are right, to a table in which
  this row is right too.
-/
module

public import proofs.«01_k».proof.Proof.Setup
public import Idealize.ShloMosaic.Lib.Pipeline.Value
public import Idealize.ShloMosaic.Lib.Writes

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- A trip of the loop as a row of the chunk. -/
abbrev rowOf (t : Fin k0_t1_loop.trips) : Fin 128 := ⟨t.val, lt_of_lt_of_eq t.isLt (by decide)⟩

theorem baseW_toNat (t : Fin k0_t1_loop.trips) : (baseW t).toNat = 128 * t.val := by
  have h : t.val < 128 := lt_of_lt_of_eq t.isLt (by decide)
  unfold baseW Scalar.muli IntOp.muli
  rw [BitVec.toNat_mul, rowW_toNat]
  simp; omega

/-- A piece of a chunk, as a rectangle. -/
abbrev pieceRect (t : Fin k0_t1_loop.trips) (s : Fin 13) : Rect S128x200 :=
  Rect.unit (s := S128x200) (pieceOff t s) S1x16.size (pieceOff_inb t s)

/-- Lane `k` of piece `s` of row `t` lies at column `laneCol s k` of that row. -/
theorem pieceRect_idx (t : Fin k0_t1_loop.trips) (s : Fin 13) (k : Fin 16) :
    (pieceRect t s).toLoadRect.idx (Fin.cons ⟨0, Nat.one_pos⟩ (Shape.ofLane (d := ![16]) k)) = cell (rowOf t) (laneCol s k) := by
  funext a
  apply Fin.ext
  rw [LoadRect.idx_apply]
  match a with
  | 0 =>
    show pieceOff t s 0 + 1 * 0 = t.val
    unfold pieceOff
    rw [rowW_toNat]
    simp
  | 1 =>
    show pieceCol s + 1 * k.val = pieceCol s + k.val
    omega

/-- What a piece's read gives, lane by lane: the names, -/
theorem read_names (t : Fin k0_t1_loop.trips) (s : Fin 13) (fi : Vec F S128x200 .i32) (k : Fin 16) :
    shapeCast S16 (sIdx.view.readAt (Elt F) (pieceRect t s).toLoadRect fi) shapeCasts_S1x16_S16 (Shape.ofLane (d := ![16]) k)
      = rowNames fi (rowOf t) (laneCol s k) := by
  refine (shapeCast_dropUnit_apply ![16] _ shapeCasts_S1x16_S16 _).trans ?_
  exact congrArg fi (pieceRect_idx t s k)

/-- and the times. -/
theorem read_times (t : Fin k0_t1_loop.trips) (s : Fin 13) (fd : Vec F S128x200 .f32) (k : Fin 16) :
    shapeCast S16 (sDt.view.readAt (Elt F) (pieceRect t s).toLoadRect fd) shapeCasts_S1x16_S16 (Shape.ofLane (d := ![16]) k)
      = rowTimes fd (rowOf t) (laneCol s k) := by
  refine (shapeCast_dropUnit_apply ![16] _ shapeCasts_S1x16_S16 _).trans ?_
  exact congrArg fd (pieceRect_idx t s k)

/-- Every index of a row of sixteen is a lane. -/
theorem exists_lane (x : S16.Idx) : ∃ k : Fin 16, x = Shape.ofLane (d := ![16]) k :=
  ⟨x 0, funext fun a => by obtain rfl : a = 0 := Subsingleton.elim _ _; rfl⟩

/-- The place a lane's name gives. -/
theorem pieceIdx_toNat (t : Fin k0_t1_loop.trips) (s : Fin 13) {fi : Vec F S128x200 .i32} (hn : NamesOK fi) (k : Fin 16) :
    (pieceIdx (F := F) t (sIdx.view.readAt (Elt F) (pieceRect t s).toLoadRect fi) (Shape.ofLane (d := ![16]) k)).toNat
      = 128 * t.val + (rowNames fi (rowOf t) (laneCol s k)).toNat := by
  have h : t.val < 128 := lt_of_lt_of_eq t.isLt (by decide)
  have h24 : (rowNames fi (rowOf t) (laneCol s k)).toNat < 24 := hn _
  unfold pieceIdx
  show (IntOp.addi (baseW t) (shapeCast S16 _ shapeCasts_S1x16_S16 (Shape.ofLane (d := ![16]) k))).toNat = _
  rw [read_names]
  unfold IntOp.addi
  rw [BitVec.toNat_add, baseW_toNat]
  omega

/-- So a piece's places are all in the table. -/
theorem pieceIdx_chk (t : Fin k0_t1_loop.trips) (s : Fin 13) {fi : Vec F S128x200 .i32} (hn : NamesOK fi) :
    k0_chk1 (pieceIdx (F := F) t (sIdx.view.readAt (Elt F) (pieceRect t s).toLoadRect fi)) := by
  have h : t.val < 128 := lt_of_lt_of_eq t.isLt (by decide)
  intro a x
  obtain rfl : a = 0 := Subsingleton.elim _ _
  obtain ⟨k, rfl⟩ := exists_lane x
  show (pieceIdx (F := F) t _ (Shape.ofLane (d := ![16]) k)).toNat < 16384
  rw [pieceIdx_toNat t s hn k]
  have h24 : (rowNames fi (rowOf t) (laneCol s k)).toNat < 24 := hn _
  omega

/-- The table after a piece, at each of its places. -/
theorem storeIdx_piece (t : Fin k0_t1_loop.trips) (s : Fin 13) {fi : Vec F S128x200 .i32} (fd : Vec F S128x200 .f32) (v2 : Vec F S16 .f32)
    (hn : NamesOK fi) (g : Vec F S16384 .f32) (h) (p : Fin 16384) :
    storeIdx (F := F) (e := .f32) g ![pieceIdx (F := F) t (sIdx.view.readAt (Elt F) (pieceRect t s).toLoadRect fi)]
        (pieceWt v2 (sDt.view.readAt (Elt F) (pieceRect t s).toLoadRect fd)) (pieceMask s) true h (place p)
      = addPiece (fun j => 128 * t.val + (rowNames fi (rowOf t) j).toNat) (rowTimes fd (rowOf t)) v2 p.val (g (place p)) s := by
  rw [storeIdx_add_apply]
  unfold addPiece
  show (List.finRange 16).foldl _ _ = _
  congr 1
  funext acc k
  have e : (∀ a : Fin S16384.rank, ((place p) a).val
      = ((![pieceIdx (F := F) t (sIdx.view.readAt (Elt F) (pieceRect t s).toLoadRect fi)] : Fin 1 → IVec S16 32) a (Shape.ofLane (d := ![16]) k)).toNat)
      ↔ p.val = 128 * t.val + (rowNames fi (rowOf t) (laneCol s k)).toNat := by
    rw [← pieceIdx_toNat t s hn k]
    exact ⟨fun h => h 0, fun h a => by obtain rfl : a = 0 := Subsingleton.elim _ _; exact h⟩
  have w : pieceWt v2 (sDt.view.readAt (Elt F) (pieceRect t s).toLoadRect fd) (Shape.ofLane (d := ![16]) k)
      = weight (rowTimes fd (rowOf t) (laneCol s k)) (v2 (Shape.ofLane (d := ![16]) k)) := by
    exact congrArg (fun x => weight x (v2 (Shape.ofLane (d := ![16]) k))) (read_times t s fd k)
  simp only [e, w]
  exact if_congr Iff.rfl rfl rfl

section Run

variable {Λ : Labels} {d : Dev nD} {c : Fin τ.nSC} {j : Fin τ.nSub}

/-- The tile's names, times and table, each whole. -/
abbrev idxPts (d : Dev nD) (c : Fin τ.nSC) (j : Fin τ.nSub) (f : Vec F S128x200 .i32) : sProp 𝕄 := sIdx.view.loc (V d c j) ↦{fullShare} f
abbrev dtPts (d : Dev nD) (c : Fin τ.nSC) (j : Fin τ.nSub) (f : Vec F S128x200 .f32) : sProp 𝕄 := sDt.view.loc (V d c j) ↦{fullShare} f
abbrev tabPts (d : Dev nD) (c : Fin τ.nSC) (j : Fin τ.nSub) (f : Vec F S16384 .f32) : sProp 𝕄 := sTab.view.loc (V d c j) ↦{fullShare} f

theorem tabPts_access (f : Vec F S16384 .f32) :
    (((sTab).access (.whole S16384)).loc (V d c j) ↦[((sTab).access (.whole S16384)).set]{fullShare} f : sProp 𝕄) = tabPts d c j f := by
  rw [show ((sTab).access (.whole S16384)).set = Finset.univ from Memref.set_access_whole (cc0_scratch2 : Ref sig .scVector)]

/-- The whole table written, and read. -/
theorem tab_write (g w : Vec F S16384 .f32) : (sTab.access (.whole S16384)).write (Elt F) g w Finset.univ = w :=
  Memref.write_access_whole_univ (Elt F) (cc0_scratch2 : Ref sig .scVector) g w
theorem tab_read (g : Vec F S16384 .f32) : (sTab.access (.whole S16384)).read (Elt F) g = g :=
  Memref.read_access_whole (Elt F) (cc0_scratch2 : Ref sig .scVector) g

/-- Sixteen places of the table set to one value, read at a place. -/
theorem tab_clear (o : ℕ) {off : Fin 1 → ℕ} (ho : off = ![o]) (inb : ∀ a, off a + S16.size a ≤ S16384.size a) (g : Vec F S16384 .f32)
    (z : F .f32) (w : Vec F S16 .f32) (hw : ∀ x, w x = z) (p : Fin 16384) :
    (sTab.access (Rect.unit (s := S16384) off S16.size inb)).write (Elt F) g w Finset.univ (place p)
      = if o ≤ p.val ∧ p.val < o + 16 then z else g (place p) := by
  subst ho
  have key : ∀ y, (sTab.access (Rect.unit (s := S16384) ![o] S16.size inb)).write (Elt F) g w Finset.univ y
      = sTab.view.read (Elt F) (sTab.view.writes (Elt F) g [⟨Rect.unit (s := S16384) ![o] S16.size inb, w⟩]) y := fun _ => rfl
  rw [key]
  split
  · rename_i h
    rw [View.read_writes_cons_hit_of_coords sTab.view g (Rect.unit (s := S16384) ![o] S16.size inb) w []
      (Shape.ofLane (d := ![16]) (⟨p.val - o, by omega⟩ : Fin 16)) (place p), hw]
    intro a
    obtain rfl : a = 0 := Subsingleton.elim _ _
    show p.val = o + 1 * (p.val - o)
    omega
  · rename_i h
    rw [View.read_writes_cons_miss_of_axis sTab.view g ⟨Rect.unit (s := S16384) ![o] S16.size inb, w⟩ [] (place p) 0 o 16 rfl rfl rfl
      (by show p.val < o ∨ o + 16 ≤ p.val; omega)]
    rfl

/-- The pieces of a row, run: the names and times are kept, and each place of the table has the row's weights there added
    to it. -/
theorem wp_pieces (v2 : Vec F S16 .f32) (t : Fin k0_t1_loop.trips) {fi : Vec F S128x200 .i32} {fd : Vec F S128x200 .f32} (hn : NamesOK fi)
    {α : Type} (k : PUnit → Tile F c j α) (Q : α → sProp 𝕄) (l : List (Fin 13)) (g : Vec F S16384 .f32) :
    iprop(idxPts d c j fi ∗ dtPts d c j fd ∗ tabPts d c j g
        ∗ (∀ g', ⌜∀ p, g' (place p) = l.foldl (addPiece (fun j => 128 * t.val + (rowNames fi (rowOf t) j).toNat) (rowTimes fd (rowOf t)) v2 p.val) (g (place p))⌝
            -∗ idxPts d c j fi -∗ dtPts d c j fd -∗ tabPts d c j g'
            -∗ wp frame (wpE (defs₀ (F := F)) 𝒱₀ (V d c j) none) Set.univ (k ⟨⟩) Q))
      ⊢ wp frame (wpE (defs₀ (F := F)) 𝒱₀ (V d c j) none) Set.univ (pieces v2 t l >>= k) Q := by
  induction l generalizing g with
  | nil =>
    iintro ⟨Hi, Hd, Hg, Hk⟩
    iapply Hk $$ [] Hi Hd Hg
    ipureintro; exact fun _ => rfl
  | cons s l ih =>
    unfold pieces piece
    simp only [Prog.lift, Prog.bind_op, Prog.bind_ret, Prog.pure_eq_ret, Prog.bind_assoc]
    iintro ⟨Hi, Hd, Hg, Hk⟩
    iapply (wp_load 𝒱₀ (V d c j) none Set.univ (m := sIdx) (S := Finset.univ) (Finset.subset_univ _)) $$ Hi; iintro Hi
    iapply (wp_load 𝒱₀ (V d c j) none Set.univ (m := sDt) (S := Finset.univ) (Finset.subset_univ _)) $$ Hd; iintro Hd
    rw [wp_assume_of _ _ _ _ (pieceIdx_chk t s hn)]
    ihave Hg' := (Entails.of_eq (tabPts_access (F := F) (d := d) (c := c) (j := j) g).symm) $$ Hg
    iapply (SparseCore.wp_vectorStoreIdx 𝒱₀ (V d c j) none Set.univ (base := sTab)) $$ Hg'; iintro Hg'
    ihave Hg := (Entails.of_eq (tabPts_access (F := F) (d := d) (c := c) (j := j) _)) $$ Hg'
    iapply (ih _) $$ [Hi Hd Hg Hk]
    isplitl [Hi]; · iexact Hi
    isplitl [Hd]; · iexact Hd
    isplitl [Hg]; · iexact Hg
    iintro %g' %hg' Hi Hd Hg
    iapply Hk $$ [] Hi Hd Hg
    ipureintro
    intro p
    rw [hg', List.foldl_cons, tab_write, tab_read, storeIdx_piece t s fd v2 hn]

/-- What the loop over a chunk's rows keeps: the names, the times, and a table right in the rows passed. -/
abbrev rowsInv (d : Dev nD) (c : Fin τ.nSC) (j : Fin τ.nSub) (v2 : Vec F S16 .f32) (fi : Vec F S128x200 .i32) (fd : Vec F S128x200 .f32) (n : ℕ) : sProp 𝕄 :=
  iprop(idxPts d c j fi ∗ dtPts d c j fd ∗ ∃ g, ⌜TableOK fi fd v2 n g⌝ ∗ tabPts d c j g)

/-- A row's pass: one more row right. -/
theorem wp_rowPass (v2 : Vec F S16 .f32) (t : Fin k0_t1_loop.trips) {fi : Vec F S128x200 .i32} {fd : Vec F S128x200 .f32} (hn : NamesOK fi)
    (Q : PUnit → sProp 𝕄) (hQ : rowsInv d c j v2 fi fd (t.val + 1) ⊢ Q ⟨⟩) :
    rowsInv d c j v2 fi fd t.val
      ⊢ wp frame (wpE (defs₀ (F := F)) 𝒱₀ (V d c j) none) Set.univ (rowPass v2 (broadcast S16 zeroF) t) Q := by
  unfold rowPass
  simp only [Prog.lift, Prog.bind_op, Prog.bind_ret, Prog.pure_eq_ret]
  iintro ⟨Hi, Hd, %g, %hg, Hg⟩
  iapply (wp_load 𝒱₀ (V d c j) none Set.univ (m := sTab) (S := Finset.univ) (Finset.subset_univ _)) $$ Hg; iintro Hg
  iapply (wp_store 𝒱₀ (V d c j) none Set.univ (m := sTab) (r := Rect.unit (s := S16384) (k0_off2 t) S16.size (k0_off2_inb t)) (Mk := Finset.univ) (S := Finset.univ) (Finset.subset_univ _)) $$ Hg; iintro Hg
  iapply (wp_load 𝒱₀ (V d c j) none Set.univ (m := sTab) (S := Finset.univ) (Finset.subset_univ _)) $$ Hg; iintro Hg
  iapply (wp_store 𝒱₀ (V d c j) none Set.univ (m := sTab) (r := Rect.unit (s := S16384) (k0_off3 t) S16.size (k0_off3_inb t)) (Mk := Finset.univ) (S := Finset.univ) (Finset.subset_univ _)) $$ Hg; iintro Hg
  rw [← Prog.bind_pure (pieces v2 t _)]
  iapply (wp_pieces v2 t (fd := fd) hn (fun x => pure x) Q allPieces _) $$ [Hi Hd Hg]
  isplitl [Hi]; · iexact Hi
  isplitl [Hd]; · iexact Hd
  isplitl [Hg]; · iexact Hg
  iintro %g' %hg' Hi Hd Hg
  simp only [Prog.pure_eq_ret]
  rw [wp_ret]; imodintro
  iapply hQ
  isplitl [Hi]; · iexact Hi
  isplitl [Hd]; · iexact Hd
  iexists g'
  isplitr
  · ipureintro
    refine TableOK.step (rowOf t) hn hg (fun p => ?_) hg'
    rw [tab_clear _ (k0_off3_eq t) (k0_off3_inb t) _ zeroF (broadcast S16 zeroF) (fun _ => rfl),
      tab_clear _ (k0_off2_eq t) (k0_off2_inb t) _ zeroF (broadcast S16 zeroF) (fun _ => rfl)]
    show _ = if 128 * t.val ≤ p.val ∧ p.val < 128 * t.val + 32 then zeroF else g (place p)
    split_ifs <;> first | rfl | omega
  · iexact Hg

end Run

end Cert.Proof
-- ==== Proof.Tile.lean ====
/-
  The task of one tile, run: from read shares of the names, the times and the decay rate and the tile's four pieces of the
  table array, to those pieces holding the rows' totals.
-/
module

public import proofs.«01_k».proof.Proof.Pass

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

-- the arrays as a tile addresses them, spelt as the program passes them
local notation "aV" => (Memref.whole Cert.KernelIdeal.main_arg0_scv : Memref Cert.KernelIdeal.sig Kind.scVector Space.hbm Cert.KernelIdeal.S16384x200 EltTy.i32)
local notation "bV" => (Memref.whole Cert.KernelIdeal.main_arg1_scv : Memref Cert.KernelIdeal.sig Kind.scVector Space.hbm Cert.KernelIdeal.S16384x200 EltTy.f32)
local notation "nV" => (Memref.whole Cert.KernelIdeal.main_v2_scv : Memref Cert.KernelIdeal.sig Kind.scVector Space.hbm Cert.KernelIdeal.S16 EltTy.f32)
local notation "hV" => (Memref.whole Cert.KernelIdeal.main_v3_scv : Memref Cert.KernelIdeal.sig Kind.scVector Space.hbm Cert.KernelIdeal.S2097152 EltTy.f32)

/-- The arrays of the call, on device `d`: names, times, decay rate, table. -/
abbrev aLoc (d : Dev nD) : Loc nD τ sig := (SparseCore.T d).loc main_arg0
abbrev bLoc (d : Dev nD) : Loc nD τ sig := (SparseCore.T d).loc main_arg1
abbrev nLoc (d : Dev nD) : Loc nD τ sig := (SparseCore.T d).loc main_v2
abbrev hLoc (d : Dev nD) : Loc nD τ sig := (SparseCore.T d).loc main_v3

/-- An index of the names and times, and of the table array. -/
abbrev gcell (R : Fin 16384) (j : Fin 200) : S16384x200.Idx := Fin.cons R (Fin.cons j fun a => a.elim0)
abbrev gplace (p : Fin 2097152) : S2097152.Idx := Fin.cons p fun a => a.elim0

/-- The total weight at bin `b` of row `R`. -/
abbrev rowBin (A : Vec F S16384x200 .i32) (B : Vec F S16384x200 .f32) (n : Vec F S16 .f32) (R : Fin 16384) (b : ℕ) : F .f32 :=
  bin (fun j => A (gcell R j)) (fun j => B (gcell R j)) n b

/-- The table array is right in the rows from `lo` to `hi`. -/
def RowsOK (A : Vec F S16384x200 .i32) (B : Vec F S16384x200 .f32) (n : Vec F S16 .f32) (lo hi : ℕ) (h : Vec F S2097152 .f32) : Prop :=
  ∀ (R : Fin 16384) (b : Fin 24), lo ≤ R.val → R.val < hi → h (gplace ⟨128 * R.val + b.val, by omega⟩) = rowBin A B n R b.val

section Tile

variable (d : Dev nD) (L : grid0.Coords)

abbrev cV (L : grid0.Coords) : Fin τ.nSC := (L 0).castLE hcore0
abbrev jV (L : grid0.Coords) : Fin τ.nSub := (L 1).castLE hsub0

/-- The tile's thread. -/
abbrev thr (d : Dev nD) (L : grid0.Coords) : Thread nD τ := V d (cV L) (jV L)

/-- The first row of chunk `r` of the tile. -/
abbrev firstRow (L : grid0.Coords) (r : Fin 4) : ℕ := 1024 * (L 1).val + 512 * (L 0).val + 128 * r.val

/-- Chunk `r` of the names, of the times and of the table array. -/
abbrev aChunk (L : grid0.Coords) (r : Fin 4) : Memref sig .scVector .hbm S128x200 .i32 :=
  Memref.slice aV (Rect.unit (s := S16384x200) (k0_off1 L (BitVec.ofNat 32 (128 * r.val))) S128x200.size (k0_off1_inb L r)) (fun _ => rfl)
abbrev bChunk (L : grid0.Coords) (r : Fin 4) : Memref sig .scVector .hbm S128x200 .f32 :=
  Memref.slice bV (Rect.unit (s := S16384x200) (k0_off1 L (BitVec.ofNat 32 (128 * r.val))) S128x200.size (k0_off1_inb L r)) (fun _ => rfl)
abbrev hChunk (L : grid0.Coords) (r : Fin 4) : Memref sig .scVector .hbm S16384 .f32 :=
  Memref.slice hV (Rect.unit (s := S2097152) (k0_off17 L (BitVec.ofNat 32 (128 * r.val))) S16384.size (k0_off17_inb L r)) (fun _ => rfl)

abbrev hPiece (d : Dev nD) (L : grid0.Coords) (r : Fin 4) (f : Vec F S2097152 .f32) : sProp 𝕄 :=
  (hChunk L r).view.loc (thr d L) ↦[(hChunk L r).view.set]{fullShare} f

abbrev ngPts (d : Dev nD) (c : Fin τ.nSC) (j : Fin τ.nSub) (f : Vec F S16 .f32) : sProp 𝕄 := sNg.view.loc (V d c j) ↦{fullShare} f

/-- The tile's thirteen semaphores. -/
def tileSem : Fin 13 → DmaSem sig :=
  ![cc0_scoped0.sem, cc0_scoped1.sem, cc0_scoped2.sem, cc0_scoped3.sem, cc0_scoped4.sem, cc0_scoped5.sem, cc0_scoped6.sem,
    cc0_scoped7.sem, cc0_scoped8.sem, cc0_scoped9.sem, cc0_scoped10.sem, cc0_scoped11.sem, cc0_scoped12.sem]

abbrev tileCell (d : Dev nD) (L : grid0.Coords) (r : Fin 13) : GSem nD τ sig := (thr d L, .dma (tileSem r))

theorem tileCell_inj : Function.Injective (tileCell d L) := by
  intro a b h
  have h' : (SemLoc.dma (tileSem a) : SemLoc sig) = SemLoc.dma (tileSem b) := (Prod.mk.inj h).2
  clear h
  revert a b; decide

abbrev tileCells : Finset (GSem nD τ sig) := Finset.univ.map ⟨tileCell d L, tileCell_inj d L⟩

theorem tileCells_sub : tileCells d L ⊆ ownCells (thr d L) := by
  intro g hg
  obtain ⟨r, -, rfl⟩ := Finset.mem_map.mp hg
  refine (mem_ownCells (g := tileCell d L r)).mpr ⟨rfl, ?_⟩
  show (SemLoc.dma (tileSem r) : SemLoc sig).isScoped .scVector = true
  clear hg
  revert r; decide

/-- The tile's semaphores at zero: its thirteen, one by one, and the others. -/
theorem ownSems0_V :
    (ownSems0 (thr d L) : sProp 𝕄)
      = iprop((semVal (thr d L, .dma cc0_scoped0.sem) 0 ∗ semVal (thr d L, .dma cc0_scoped1.sem) 0 ∗ semVal (thr d L, .dma cc0_scoped2.sem) 0
          ∗ semVal (thr d L, .dma cc0_scoped3.sem) 0 ∗ semVal (thr d L, .dma cc0_scoped4.sem) 0 ∗ semVal (thr d L, .dma cc0_scoped5.sem) 0
          ∗ semVal (thr d L, .dma cc0_scoped6.sem) 0 ∗ semVal (thr d L, .dma cc0_scoped7.sem) 0 ∗ semVal (thr d L, .dma cc0_scoped8.sem) 0
          ∗ semVal (thr d L, .dma cc0_scoped9.sem) 0 ∗ semVal (thr d L, .dma cc0_scoped10.sem) 0 ∗ semVal (thr d L, .dma cc0_scoped11.sem) 0
          ∗ semVal (thr d L, .dma cc0_scoped12.sem) 0)
          ∗ bigSep (ownCells (thr d L) \ tileCells d L) fun g => semVal g 0) := by
  unfold SparseCore.Cfg.ownSems0
  conv_lhs => rw [← Finset.union_sdiff_of_subset (tileCells_sub d L)]
  rw [SparseCore.bigSep_union' Finset.disjoint_sdiff, bigSep_map,
    show (Finset.univ : Finset (Fin 13)) = {0, 1, 2, 3, 4, 5, 6, 7, 8, 9, 10, 11, 12} by decide]
  repeat rw [SparseCore.bigSep_insert' (by decide)]
  rw [bigSep_singleton]
  rfl

/-- The tile's own memories: the four scratch memories, at some contents, and the others. -/
theorem ownBufs_V :
    (ownBufs (thr d L) : sProp 𝕄)
      = iprop(((∃ f, idxPts d (cV L) (jV L) f) ∗ (∃ f, dtPts d (cV L) (jV L) f) ∗ (∃ f, tabPts d (cV L) (jV L) f) ∗ ∃ f, ngPts d (cV L) (jV L) f)
          ∗ bigSep (ownRefs (τ := τ) (.scVector (cV L) (jV L)) \ ({cc0_scratch0, cc0_scratch1, cc0_scratch2, cc0_scratch3} : Finset (Ref sig .scVector)).map
                ⟨(Proc.scVector (cV L) (jV L)).devRef, Proc.devRef_injective _⟩)
              fun b => iprop(∃ f, ((d, b) : Loc nD τ sig) ↦{fullShare} f)) := by
  unfold SparseCore.Cfg.ownBufs
  have hsub : ({cc0_scratch0, cc0_scratch1, cc0_scratch2, cc0_scratch3} : Finset (Ref sig .scVector)).map
      ⟨(Proc.scVector (cV L) (jV L)).devRef, Proc.devRef_injective _⟩ ⊆ ownRefs (τ := τ) (.scVector (cV L) (jV L)) := by
    intro b hb
    obtain ⟨x, hx, rfl⟩ := Finset.mem_map.mp hb
    refine SparseCore.Cfg.mem_ownRefs_of_owner ?_
    simp only [Finset.mem_insert, Finset.mem_singleton] at hx
    rcases hx with rfl | rfl | rfl | rfl <;> rfl
  show bigSep (ownRefs (τ := τ) (.scVector (cV L) (jV L))) _ = _
  conv_lhs => rw [← Finset.union_sdiff_of_subset hsub]
  rw [SparseCore.bigSep_union' Finset.disjoint_sdiff, bigSep_map,
    SparseCore.bigSep_insert' (show (cc0_scratch0 : Ref sig .scVector) ∉ ({cc0_scratch1, cc0_scratch2, cc0_scratch3} : Finset (Ref sig .scVector)) by decide),
    SparseCore.bigSep_insert' (show (cc0_scratch1 : Ref sig .scVector) ∉ ({cc0_scratch2, cc0_scratch3} : Finset (Ref sig .scVector)) by decide),
    SparseCore.bigSep_insert' (show (cc0_scratch2 : Ref sig .scVector) ∉ ({cc0_scratch3} : Finset (Ref sig .scVector)) by decide), bigSep_singleton]
  rfl

/-- Chunk `r` of the names and of the times. -/
abbrev aRows (L : grid0.Coords) (r : Fin 4) (A : Vec F S16384x200 .i32) : Vec F S128x200 .i32 := (aChunk L r).view.read (Elt F) A
abbrev bRows (L : grid0.Coords) (r : Fin 4) (B : Vec F S16384x200 .f32) : Vec F S128x200 .f32 := (bChunk L r).view.read (Elt F) B

/-- What a copy onto a whole scratch memory leaves. -/
theorem land_idx (f w : Vec F S128x200 .i32) :
    (sIdx.view.loc (thr d L) ↦{fullShare} sIdx.view.write (Elt F) f w Finset.univ : sProp 𝕄) = idxPts d (cV L) (jV L) w := by
  rw [show sIdx.view.write (Elt F) f w Finset.univ = w from View.write_whole_univ _ _ _]
theorem land_dt (f w : Vec F S128x200 .f32) :
    (sDt.view.loc (thr d L) ↦{fullShare} sDt.view.write (Elt F) f w Finset.univ : sProp 𝕄) = dtPts d (cV L) (jV L) w := by
  rw [show sDt.view.write (Elt F) f w Finset.univ = w from View.write_whole_univ _ _ _]

/-- The decay rate read back from the tile's own memory is the array's. -/
theorem ng_read (n f : Vec F S16 .f32) :
    sNg.view.readAt (Elt F) (Rect.unit (s := S16) ![0] S16.size inb_S16_S16_0).toLoadRect
      (sNg.view.write (Elt F) f ((nV).view.read (Elt F) n) Finset.univ) = n := by
  rw [show sNg.view.write (Elt F) f ((nV).view.read (Elt F) n) Finset.univ = n from View.write_whole_univ _ _ _]
  exact Memref.readAt_unit_zero (Elt F) (cc0_scratch3 : Ref sig .scVector) (by funext a; obtain rfl : a = 0 := Subsingleton.elim _ _; rfl) inb_S16_S16_0 n

/-- A chunk's row and column, in the whole array. -/
theorem chunk_idx (r : Fin 4) (t : Fin 128) (j : Fin 200) (h : firstRow L r + t.val < 16384) :
    (Rect.unit (s := S16384x200) (k0_off1 L (BitVec.ofNat 32 (128 * r.val))) S128x200.size (k0_off1_inb L r)).toLoadRect.idx (cell t j)
      = gcell ⟨firstRow L r + t.val, h⟩ j := by
  funext a
  apply Fin.ext
  rw [LoadRect.idx_apply]
  match a with
  | 0 =>
    show k0_off1 L (BitVec.ofNat 32 (128 * r.val)) 0 + 1 * t.val = firstRow L r + t.val
    rw [k0_off1_eq L r, Nat.one_mul]; rfl
  | 1 =>
    show k0_off1 L (BitVec.ofNat 32 (128 * r.val)) 1 + 1 * j.val = j.val
    rw [k0_off1_eq L r, Nat.one_mul]; exact Nat.zero_add _
theorem aChunk_read (r : Fin 4) (A : Vec F S16384x200 .i32) (t : Fin 128) (j : Fin 200) (h : firstRow L r + t.val < 16384) :
    aRows L r A (cell t j) = A (gcell ⟨firstRow L r + t.val, h⟩ j) := congrArg A (chunk_idx L r t j h)
theorem bChunk_read (r : Fin 4) (B : Vec F S16384x200 .f32) (t : Fin 128) (j : Fin 200) (h : firstRow L r + t.val < 16384) :
    bRows L r B (cell t j) = B (gcell ⟨firstRow L r + t.val, h⟩ j) := congrArg B (chunk_idx L r t j h)

/-- A place of chunk `r`'s piece of the table array. -/
theorem hChunk_emb (r : Fin 4) (p : Fin 16384) (h : 128 * firstRow L r + p.val < 2097152) :
    (hChunk L r).view.emb (place p) = gplace ⟨128 * firstRow L r + p.val, h⟩ := by
  show (Rect.unit (s := S2097152) (k0_off17 L (BitVec.ofNat 32 (128 * r.val))) S16384.size (k0_off17_inb L r)).toLoadRect.idx (place p) = _
  funext a
  apply Fin.ext
  rw [LoadRect.idx_apply]
  obtain rfl : a = 0 := Subsingleton.elim _ _
  show k0_off17 L (BitVec.ofNat 32 (128 * r.val)) 0 + 1 * p.val = 128 * firstRow L r + p.val
  rw [k0_off17_eq L r]
  show 131072 * (L 1).val + 65536 * (L 0).val + 16384 * r.val + 1 * p.val = 128 * (1024 * (L 1).val + 512 * (L 0).val + 128 * r.val) + p.val
  omega

theorem firstRow_le (r : Fin 4) : firstRow L r + 128 ≤ 16384 := by
  have h0 : (L 0).val < 2 := (L 0).isLt
  have h1 : (L 1).val < 16 := (L 1).isLt
  have := r.isLt
  show 1024 * (L 1).val + 512 * (L 0).val + 128 * r.val + 128 ≤ 16384
  omega

/-- A table right in its 128 rows, copied to the chunk's piece of the table array, makes the array right there. -/
theorem rows_of_table (r : Fin 4) {A : Vec F S16384x200 .i32} {B : Vec F S16384x200 .f32} {n : Vec F S16 .f32} {g : Vec F S16384 .f32} {k : ℕ}
    (hk : 128 ≤ k) (hg : TableOK (aRows L r A) (bRows L r B) n k g) (f w : Vec F S2097152 .f32) (hw : w = (hChunk L r).view.writes (Elt F) f [⟨Rect.whole S16384, g⟩]) :
    RowsOK A B n (firstRow L r) (firstRow L r + 128) w := by
  intro R b h1 h2
  subst hw
  have hle := firstRow_le L r
  have hb := b.isLt
  have hR := R.isLt
  have e : (gplace ⟨128 * R.val + b.val, by omega⟩ : S2097152.Idx) = (hChunk L r).view.emb (place ⟨128 * (R.val - firstRow L r) + b.val, by omega⟩) := by
    rw [hChunk_emb L r _ (by show 128 * firstRow L r + (128 * (R.val - firstRow L r) + b.val) < 2097152; omega)]
    congr 1
    apply Fin.ext
    show 128 * R.val + b.val = 128 * firstRow L r + (128 * (R.val - firstRow L r) + b.val)
    omega
  rw [e]
  have e2 : (hChunk L r).view.emb (place ⟨128 * (R.val - firstRow L r) + b.val, by omega⟩)
      = ((hChunk L r).view.slice (Rect.whole S16384)).emb (place ⟨128 * (R.val - firstRow L r) + b.val, by omega⟩) := by
    refine congrArg (hChunk L r).view.emb ?_
    funext a
    apply Fin.ext
    obtain rfl : a = 0 := Subsingleton.elim _ _
    show _ = 0 + 1 * _
    rw [Nat.one_mul, Nat.zero_add]
  rw [e2, View.writes_singleton, View.write_emb_of_mem _ _ (Finset.mem_univ _)]
  refine (hg ⟨R.val - firstRow L r, by omega⟩ b (by show R.val - firstRow L r < k; omega)).trans ?_
  have eR : ∀ h, (⟨firstRow L r + (R.val - firstRow L r), h⟩ : Fin 16384) = R := fun _ => Fin.ext (by show firstRow L r + (R.val - firstRow L r) = R.val; omega)
  unfold rowBin rowNames rowTimes
  congr 1
  · funext j
    rw [aChunk_read L r A _ j (by show firstRow L r + (R.val - firstRow L r) < 16384; omega), eR]
  · funext j
    rw [bChunk_read L r B _ j (by show firstRow L r + (R.val - firstRow L r) < 16384; omega), eR]

theorem names_chunk (r : Fin 4) {A : Vec F S16384x200 .i32} (hA : ∀ x, (A x : BitVec 32).toNat < 24) : NamesOK (aRows L r A) :=
  fun x => hA ((aChunk L r).view.emb x)

/-- A row's pass, the decay rate under another name. -/
theorem wp_rowPass' {n v : Vec F S16 .f32} (t : Fin k0_t1_loop.trips) {fi : Vec F S128x200 .i32} {fd : Vec F S128x200 .f32} (hn : NamesOK fi)
    (hv : v = n) (Q : PUnit → sProp 𝕄) (hQ : rowsInv d (cV L) (jV L) n fi fd (t.val + 1) ⊢ Q ⟨⟩) :
    rowsInv d (cV L) (jV L) n fi fd t.val
      ⊢ wp frame (wpE (defs₀ (F := F)) 𝒱₀ (V d (cV L) (jV L)) none) Set.univ (rowPass v (broadcast S16 zeroF) t) Q := by
  subst hv
  exact wp_rowPass v t hn Q hQ

/-- The four loops' trips are the canonical pass. -/
theorem wp_loop1 {n v2 : Vec F S16 .f32} (t : Fin k0_t1_loop.trips) {fi : Vec F S128x200 .i32} {fd : Vec F S128x200 .f32}
    (hn : NamesOK fi) (hv : v2 = n) (Q : PUnit → sProp 𝕄) (hQ : rowsInv d (cV L) (jV L) n fi fd (t.val + 1) ⊢ Q ⟨⟩) :
    rowsInv d (cV L) (jV L) n fi fd t.val
      ⊢ wp frame (wpE (defs₀ (F := F)) 𝒱₀ (V d (cV L) (jV L)) none) Set.univ (k0_t1_body L aV (Memref.isWhole_whole _) bV (Memref.isWhole_whole _) nV (Memref.isWhole_whole _) hV (Memref.isWhole_whole _)
        sIdx (Memref.isWhole_whole _) sDt (Memref.isWhole_whole _) sTab (Memref.isWhole_whole _) sNg (Memref.isWhole_whole _)
        cc0_scoped0 cc0_scoped1 cc0_scoped2 cc0_scoped3 cc0_scoped4 cc0_scoped5 cc0_scoped6 cc0_scoped7 cc0_scoped8 cc0_scoped9 cc0_scoped10 cc0_scoped11 cc0_scoped12 v2 t ⟨⟩) Q := by
  exact wp_rowPass' d L t hn hv Q hQ

theorem wp_loop2 {n v2 : Vec F S16 .f32} {v1 v12 : BitVec 32} {v4 : FVec F S16 .f32} {v6 : IVec S16 1} (t : Fin k0_t2_loop.trips) {fi : Vec F S128x200 .i32} {fd : Vec F S128x200 .f32}
    (hn : NamesOK fi) (hv : v2 = n) (h4 : v4 = broadcast S16 zeroF) (h6 : v6 = tailMask) (Q : PUnit → sProp 𝕄) (hQ : rowsInv d (cV L) (jV L) n fi fd (t.val + 1) ⊢ Q ⟨⟩) :
    rowsInv d (cV L) (jV L) n fi fd t.val
      ⊢ wp frame (wpE (defs₀ (F := F)) 𝒱₀ (V d (cV L) (jV L)) none) Set.univ (k0_t2_body L aV (Memref.isWhole_whole _) bV (Memref.isWhole_whole _) nV (Memref.isWhole_whole _) hV (Memref.isWhole_whole _)
        sIdx (Memref.isWhole_whole _) sDt (Memref.isWhole_whole _) sTab (Memref.isWhole_whole _) sNg (Memref.isWhole_whole _)
        cc0_scoped0 cc0_scoped1 cc0_scoped2 cc0_scoped3 cc0_scoped4 cc0_scoped5 cc0_scoped6 cc0_scoped7 cc0_scoped8 cc0_scoped9 cc0_scoped10 cc0_scoped11 cc0_scoped12 v1 v2 v4 v6 v12 t ⟨⟩) Q := by
  subst h4 h6
  exact wp_rowPass' d L t hn hv Q hQ

theorem wp_loop3 {n v2 : Vec F S16 .f32} {v1 v12 : BitVec 32} {v4 : FVec F S16 .f32} {v6 : IVec S16 1} (t : Fin k0_t3_loop.trips) {fi : Vec F S128x200 .i32} {fd : Vec F S128x200 .f32}
    (hn : NamesOK fi) (hv : v2 = n) (h4 : v4 = broadcast S16 zeroF) (h6 : v6 = tailMask) (Q : PUnit → sProp 𝕄) (hQ : rowsInv d (cV L) (jV L) n fi fd (t.val + 1) ⊢ Q ⟨⟩) :
    rowsInv d (cV L) (jV L) n fi fd t.val
      ⊢ wp frame (wpE (defs₀ (F := F)) 𝒱₀ (V d (cV L) (jV L)) none) Set.univ (k0_t3_body L aV (Memref.isWhole_whole _) bV (Memref.isWhole_whole _) nV (Memref.isWhole_whole _) hV (Memref.isWhole_whole _)
        sIdx (Memref.isWhole_whole _) sDt (Memref.isWhole_whole _) sTab (Memref.isWhole_whole _) sNg (Memref.isWhole_whole _)
        cc0_scoped0 cc0_scoped1 cc0_scoped2 cc0_scoped3 cc0_scoped4 cc0_scoped5 cc0_scoped6 cc0_scoped7 cc0_scoped8 cc0_scoped9 cc0_scoped10 cc0_scoped11 cc0_scoped12 v1 v2 v4 v6 v12 t ⟨⟩) Q := by
  subst h4 h6
  exact wp_rowPass' d L t hn hv Q hQ

theorem wp_loop4 {n v2 : Vec F S16 .f32} {v4 : FVec F S16 .f32} {v6 : IVec S16 1} (t : Fin k0_t4_loop.trips) {fi : Vec F S128x200 .i32} {fd : Vec F S128x200 .f32}
    (hn : NamesOK fi) (hv : v2 = n) (h4 : v4 = broadcast S16 zeroF) (h6 : v6 = tailMask) (Q : PUnit → sProp 𝕄) (hQ : rowsInv d (cV L) (jV L) n fi fd (t.val + 1) ⊢ Q ⟨⟩) :
    rowsInv d (cV L) (jV L) n fi fd t.val
      ⊢ wp frame (wpE (defs₀ (F := F)) 𝒱₀ (V d (cV L) (jV L)) none) Set.univ (k0_t4_body L aV (Memref.isWhole_whole _) bV (Memref.isWhole_whole _) nV (Memref.isWhole_whole _) hV (Memref.isWhole_whole _)
        sIdx (Memref.isWhole_whole _) sDt (Memref.isWhole_whole _) sTab (Memref.isWhole_whole _) sNg (Memref.isWhole_whole _)
        cc0_scoped0 cc0_scoped1 cc0_scoped2 cc0_scoped3 cc0_scoped4 cc0_scoped5 cc0_scoped6 cc0_scoped7 cc0_scoped8 cc0_scoped9 cc0_scoped10 cc0_scoped11 cc0_scoped12 v2 v4 v6 t ⟨⟩) Q := by
  subst h4 h6
  exact wp_rowPass' d L t hn hv Q hQ

/-- Before the first row there is nothing to ask of the table. -/
theorem rowsInv_zero {n : Vec F S16 .f32} {fi : Vec F S128x200 .i32} {fd : Vec F S128x200 .f32} {g : Vec F S16384 .f32} :
    iprop(idxPts d (cV L) (jV L) fi ∗ dtPts d (cV L) (jV L) fd ∗ tabPts d (cV L) (jV L) g) ⊢ rowsInv d (cV L) (jV L) n fi fd 0 := by
  iintro ⟨Hi, Hd, Hg⟩
  isplitl [Hi]; · iexact Hi
  isplitl [Hd]; · iexact Hd
  iexists g
  isplitr
  · ipureintro; intro _ _ h; exact absurd h (Nat.not_lt_zero _)
  iexact Hg

theorem pts_a (q : PosShare TreeShare) (f : Vec F S16384x200 .i32) :
    ((aV).view.loc (thr d L) ↦{q} f : sProp 𝕄) = aLoc d ↦{q} f := rfl
theorem pts_b (q : PosShare TreeShare) (f : Vec F S16384x200 .f32) :
    ((bV).view.loc (thr d L) ↦{q} f : sProp 𝕄) = bLoc d ↦{q} f := rfl
theorem pts_n (q : PosShare TreeShare) (f : Vec F S16 .f32) :
    ((nV).view.loc (thr d L) ↦{q} f : sProp 𝕄) = nLoc d ↦{q} f := rfl

set_option maxHeartbeats 4000000 in
/-- The tile's task. -/
theorem tile_body (hF : (K (F := F)).Facts) (A : Vec F S16384x200 .i32) (B : Vec F S16384x200 .f32) (n : Vec F S16 .f32)
    (hA : ∀ x, (A x : BitVec 32).toNat < 24) (q : PosShare TreeShare) (O : CellTallies nD τ sig (HIx 1)) (W : Waits sig (HIx 1)) (hO : ∀ g, O g none = 0) :
    iprop(levAts (K (F := F)).L (K (F := F)).lev ∗ emp
        ∗ ((aLoc d ↦{q} A) ∗ (bLoc d ↦{q} B) ∗ (nLoc d ↦{q} n) ∗ (∃ f, hPiece d L 0 f) ∗ (∃ f, hPiece d L 1 f) ∗ (∃ f, hPiece d L 2 f) ∗ ∃ f, hPiece d L 3 f)
        ∗ scopedBufs (thr d L) ∗ scopedSems0 (thr d L) ∗ owes (thr d L) O W)
      ⊢ wp frame (wpE (defs₀ (F := F)) 𝒱₀ (thr d L) none) Set.univ
          (cc0__sc_hist L aV (Memref.isWhole_whole _) bV (Memref.isWhole_whole _) nV (Memref.isWhole_whole _) hV (Memref.isWhole_whole _)
            sIdx (Memref.isWhole_whole _) sDt (Memref.isWhole_whole _) sTab (Memref.isWhole_whole _) sNg (Memref.isWhole_whole _)
            cc0_scoped0 cc0_scoped1 cc0_scoped2 cc0_scoped3 cc0_scoped4 cc0_scoped5 cc0_scoped6 cc0_scoped7 cc0_scoped8 cc0_scoped9 cc0_scoped10 cc0_scoped11 cc0_scoped12)
          fun _ => iprop(((aLoc d ↦{q} A) ∗ (bLoc d ↦{q} B) ∗ (nLoc d ↦{q} n)
              ∗ (∃ f, ⌜RowsOK A B n (firstRow L 0) (firstRow L 0 + 128) f⌝ ∗ hPiece d L 0 f)
              ∗ (∃ f, ⌜RowsOK A B n (firstRow L 1) (firstRow L 1 + 128) f⌝ ∗ hPiece d L 1 f)
              ∗ (∃ f, ⌜RowsOK A B n (firstRow L 2) (firstRow L 2 + 128) f⌝ ∗ hPiece d L 2 f)
              ∗ ∃ f, ⌜RowsOK A B n (firstRow L 3) (firstRow L 3 + 128) f⌝ ∗ hPiece d L 3 f)
            ∗ scopedBufs (thr d L) ∗ scopedSems0 (thr d L)
            ∗ ∃ W', ⌜∀ p ∈ W', p ∈ W ∨ p.2 = none⌝ ∗ owes (thr d L) O W') := by
  simp only [cc0__sc_hist_eq_skeleton]; unfold cc0__sc_hist_skel
  simp only [k0_part13_eq_skeleton, k0_part14_eq_skeleton]; unfold k0_part13_skel k0_part14_skel
  rw [(K (F := F)).scopedBufs_V hF d (cV L) (jV L), SparseCore.Cfg.scopedSems0_V (Val := Elt F) d (cV L) (jV L), ownSems0_V, ownBufs_V]
  iintro ⟨#Hlv, -, ⟨Ha, Hb, Hn, ⟨%f0, Hh0⟩, ⟨%f1, Hh1⟩, ⟨%f2, Hh2⟩, ⟨%f3, Hh3⟩⟩, ⟨⟨⟨%fi, Hi⟩, ⟨%fd, Hd⟩, ⟨%ft, Ht⟩, ⟨%fn, Hg⟩⟩, Hbufs⟩,
    ⟨⟨C0, C1, C2, C3, C4, C5, C6, C7, C8, C9, C10, C11, C12⟩, Hsems⟩, HO⟩
  ihave Hmw := ((K (F := F)).mayWaits_none (thr := thr d L) hO) $$ Hlv
  ihave Ha := (Entails.of_eq (pts_a (F := F) d L q A).symm) $$ Ha
  ihave Hb := (Entails.of_eq (pts_b (F := F) d L q B).symm) $$ Hb
  ihave Hn := (Entails.of_eq (pts_n (F := F) d L q n).symm) $$ Hn
  sl_exec
  ihave Hi := (Entails.of_eq (land_idx (F := F) d L _ _)) $$ Hi
  ihave Hd := (Entails.of_eq (land_dt (F := F) d L _ _)) $$ Hd
  rw [Prog.bind_assoc]
  sl_for (fun k _ => rowsInv d (cV L) (jV L) n (aRows L 0 A) (bRows L 0 B) k) $$ [Hi Hd Ht]
  case region =>
    intro t _
    exact wp_loop1 d L t (names_chunk L 0 hA) (ng_read n fn) _ Entails.rfl
  · iapply rowsInv_zero
    isplitl [Hi]; · iexact Hi
    isplitl [Hd]; · iexact Hd
    iexact Ht
  iintro %_ ⟨Hi, Hd, %g0, %hg0, Ht⟩
  sl_exec
  ihave Hi := (Entails.of_eq (land_idx (F := F) d L _ _)) $$ Hi
  ihave Hd := (Entails.of_eq (land_dt (F := F) d L _ _)) $$ Hd
  rw [Prog.bind_assoc]
  sl_for (fun k _ => rowsInv d (cV L) (jV L) n (aRows L 1 A) (bRows L 1 B) k) $$ [Hi Hd Ht]
  case region =>
    intro t _
    exact wp_loop2 d L t (names_chunk L 1 hA) (ng_read n fn) rfl rfl _ Entails.rfl
  · iapply rowsInv_zero
    isplitl [Hi]; · iexact Hi
    isplitl [Hd]; · iexact Hd
    iexact Ht
  iintro %_ ⟨Hi, Hd, %g1, %hg1, Ht⟩
  sl_exec
  ihave Hi := (Entails.of_eq (land_idx (F := F) d L _ _)) $$ Hi
  ihave Hd := (Entails.of_eq (land_dt (F := F) d L _ _)) $$ Hd
  rw [Prog.bind_assoc]
  sl_for (fun k _ => rowsInv d (cV L) (jV L) n (aRows L 2 A) (bRows L 2 B) k) $$ [Hi Hd Ht]
  case region =>
    intro t _
    exact wp_loop3 d L t (names_chunk L 2 hA) (ng_read n fn) rfl rfl _ Entails.rfl
  · iapply rowsInv_zero
    isplitl [Hi]; · iexact Hi
    isplitl [Hd]; · iexact Hd
    iexact Ht
  iintro %_ ⟨Hi, Hd, %g2, %hg2, Ht⟩
  sl_exec
  ihave Hi := (Entails.of_eq (land_idx (F := F) d L _ _)) $$ Hi
  ihave Hd := (Entails.of_eq (land_dt (F := F) d L _ _)) $$ Hd
  sl_for (fun k _ => rowsInv d (cV L) (jV L) n (aRows L 3 A) (bRows L 3 B) k) $$ [Hi Hd Ht]
  case region =>
    intro t _
    exact wp_loop4 d L t (names_chunk L 3 hA) (ng_read n fn) rfl rfl _ Entails.rfl
  · iapply rowsInv_zero
    isplitl [Hi]; · iexact Hi
    isplitl [Hd]; · iexact Hd
    iexact Ht
  iintro %_ ⟨Hi, Hd, %g3, %hg3, Ht⟩
  sl_exec
  rw [wp_ret]
  imodintro
  have hk : 128 ≤ k0_t1_loop.trips := by decide
  isplitl [Ha Hb Hn Hh0 Hh1 Hh2 Hh3]
  · isplitl [Ha]; · iexact Ha
    isplitl [Hb]; · iexact Hb
    isplitl [Hn]; · iexact Hn
    isplitl [Hh0]
    · iexists _
      isplitr
      swap
      · iexact Hh0
      ipureintro; exact rows_of_table L 0 hk hg0 _ _ rfl
    isplitl [Hh1]
    · iexists _
      isplitr
      swap
      · iexact Hh1
      ipureintro; exact rows_of_table L 1 hk hg1 _ _ rfl
    isplitl [Hh2]
    · iexists _
      isplitr
      swap
      · iexact Hh2
      ipureintro; exact rows_of_table L 2 hk hg2 _ _ rfl
    iexists _
    isplitr
    swap
    · iexact Hh3
    ipureintro; exact rows_of_table L 3 hk hg3 _ _ rfl
  isplitl [Hi Hd Ht Hg Hbufs]
  · isplitl [Hi Hd Ht Hg]
    · isplitl [Hi]; · iexists _; iexact Hi
      isplitl [Hd]; · iexists _; iexact Hd
      isplitl [Ht]; · iexists _; iexact Ht
      iexists _; iexact Hg
    iexact Hbufs
  isplitl [C0 C1 C2 C3 C4 C5 C6 C7 C8 C9 C10 C11 C12 Hsems]
  · isplitr [Hsems]
    · isplitl [C0]; · iexact C0
      isplitl [C1]; · iexact C1
      isplitl [C2]; · iexact C2
      isplitl [C3]; · iexact C3
      isplitl [C4]; · iexact C4
      isplitl [C5]; · iexact C5
      isplitl [C6]; · iexact C6
      isplitl [C7]; · iexact C7
      isplitl [C8]; · iexact C8
      isplitl [C9]; · iexact C9
      isplitl [C10]; · iexact C10
      isplitl [C11]; · iexact C11
      iexact C12
    iexact Hsems
  iexists _
  isplitr
  swap
  · iexact HO
  · ipureintro
    simp only [Finset.mem_insert]
    rintro p (rfl | rfl | rfl | rfl | rfl | rfl | rfl | rfl | rfl | rfl | rfl | rfl | rfl | h)
    all_goals first | exact .inl h | exact .inr rfl

end Tile

end Cert.Proof
-- ==== Proof.Launch.lean ====
/-
  The one call of the vector subcores: what it hands each tile and takes back, the tile's obligation to the launch, and
  the split of the table array into the tiles' pieces and back.
-/
module

public import proofs.«01_k».proof.Proof.Tile
public import Idealize.ShloMosaic.Lib.SparseCore.Quiescent

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

local notation "aV" => (Memref.whole Cert.KernelIdeal.main_arg0_scv : Memref Cert.KernelIdeal.sig Kind.scVector Space.hbm Cert.KernelIdeal.S16384x200 EltTy.i32)
local notation "bV" => (Memref.whole Cert.KernelIdeal.main_arg1_scv : Memref Cert.KernelIdeal.sig Kind.scVector Space.hbm Cert.KernelIdeal.S16384x200 EltTy.f32)
local notation "nV" => (Memref.whole Cert.KernelIdeal.main_v2_scv : Memref Cert.KernelIdeal.sig Kind.scVector Space.hbm Cert.KernelIdeal.S16 EltTy.f32)
local notation "hV" => (Memref.whole Cert.KernelIdeal.main_v3_scv : Memref Cert.KernelIdeal.sig Kind.scVector Space.hbm Cert.KernelIdeal.S2097152 EltTy.f32)

/-- The coordinates of tile `i` of SparseCore `c`. -/
def coordsV (c : Fin 2) (i : Fin 16) : grid0.Coords := fun | 0 => c | 1 => i | ⟨_ + 2, h⟩ => absurd h (Nat.not_lt.mpr (Nat.le_add_left 2 _))

/-- The share of the arrays every tile reads that tile `i` of SparseCore `c` holds. -/
abbrev tileShare (c : Fin 2) (i : Fin 16) : PosShare TreeShare :=
  Transfers.dealOf (Transfers.dealOf fullShare (Finset.univ : Finset (Fin 2)) c) (Finset.univ : Finset (Fin 16)) i

/-- The read shares of a tile. -/
abbrev tileReads (d : Dev nD) (A : Vec F S16384x200 .i32) (B : Vec F S16384x200 .f32) (n : Vec F S16 .f32) (c : Fin 2) (i : Fin 16) : sProp 𝕄 :=
  iprop((aLoc d ↦{tileShare c i} A) ∗ (bLoc d ↦{tileShare c i} B) ∗ nLoc d ↦{tileShare c i} n)

/-- What a tile is handed, -/
def tileGo (d : Dev nD) (A : Vec F S16384x200 .i32) (B : Vec F S16384x200 .f32) (n : Vec F S16 .f32) (c : Fin 2) (i : Fin 16) : sProp 𝕄 :=
  iprop((aLoc d ↦{tileShare c i} A) ∗ (bLoc d ↦{tileShare c i} B) ∗ (nLoc d ↦{tileShare c i} n)
    ∗ (∃ f, hPiece d (coordsV c i) 0 f) ∗ (∃ f, hPiece d (coordsV c i) 1 f) ∗ (∃ f, hPiece d (coordsV c i) 2 f) ∗ ∃ f, hPiece d (coordsV c i) 3 f)

/-- and what it brings back: the same, its pieces of the table array right. -/
def tileDone (d : Dev nD) (A : Vec F S16384x200 .i32) (B : Vec F S16384x200 .f32) (n : Vec F S16 .f32) (c : Fin 2) (i : Fin 16) : sProp 𝕄 :=
  iprop((aLoc d ↦{tileShare c i} A) ∗ (bLoc d ↦{tileShare c i} B) ∗ (nLoc d ↦{tileShare c i} n)
    ∗ (∃ f, ⌜RowsOK A B n (firstRow (coordsV c i) 0) (firstRow (coordsV c i) 0 + 128) f⌝ ∗ hPiece d (coordsV c i) 0 f)
    ∗ (∃ f, ⌜RowsOK A B n (firstRow (coordsV c i) 1) (firstRow (coordsV c i) 1 + 128) f⌝ ∗ hPiece d (coordsV c i) 1 f)
    ∗ (∃ f, ⌜RowsOK A B n (firstRow (coordsV c i) 2) (firstRow (coordsV c i) 2 + 128) f⌝ ∗ hPiece d (coordsV c i) 2 f)
    ∗ ∃ f, ⌜RowsOK A B n (firstRow (coordsV c i) 3) (firstRow (coordsV c i) 3 + 128) f⌝ ∗ hPiece d (coordsV c i) 3 f)

instance tileGo_storable (d : Dev nD) (A : Vec F S16384x200 .i32) (B : Vec F S16384x200 .f32) (n : Vec F S16 .f32) (c : Fin 2) (i : Fin 16) :
    BI.Storable (upEmb : UEmb _ 𝕄) (tileGo d A B n c i) := by unfold tileGo; infer_instance
instance tileDone_storable (d : Dev nD) (A : Vec F S16384x200 .i32) (B : Vec F S16384x200 .f32) (n : Vec F S16 .f32) (c : Fin 2) (i : Fin 16) :
    BI.Storable (upEmb : UEmb _ 𝕄) (tileDone d A B n c i) := by unfold tileDone; infer_instance

theorem nCore_zero : (K (F := F)).nCore 0 = 2 := rfl
theorem nSub_zero : (K (F := F)).nSub 0 = 16 := rfl

section Launch

variable (m : (ℓ : Loc nD τ sig) → Buf (Elt F) ℓ)

/-- The decay rate the host computes, one copy in each lane. -/
def rate (d : Dev nD) : Vec F S16 .f32 :=
  broadcastInDim S16 ![] bcast_S_S16 (Host.negf (Host.exp (m ((SparseCore.T d).loc main_arg3) : FVec F S_ .f32)))

/-- The names and times at launch. -/
abbrev names (d : Dev nD) : Vec F S16384x200 .i32 := m (aLoc d)
abbrev times (d : Dev nD) : Vec F S16384x200 .f32 := m (bLoc d)

/-- The one call hands each SparseCore what its tiles are handed, and takes back what they bring back. -/
def P : (K (F := F)).Pay (nD := nD) (Val := Elt F) (Name := ℕ) (U := UU) where
  st := fun q d c => match q with | 0 => bigSep Finset.univ fun i : Fin 16 => tileGo d (names m d) (times m d) (rate m d) (Fin.cast nCore_zero c) i
  dn := fun q d c => match q with | 0 => bigSep Finset.univ fun i : Fin 16 => tileDone d (names m d) (times m d) (rate m d) (Fin.cast nCore_zero c) i
  go := fun q d c i => match q with | 0 => tileGo d (names m d) (times m d) (rate m d) (Fin.cast nCore_zero c) (Fin.cast nSub_zero i)
  td := fun q d c i => match q with | 0 => tileDone d (names m d) (times m d) (rate m d) (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => tileGo d (names m d) (times m d) (rate m d) (Fin.cast nCore_zero c) i))
  dn q d c := match q with
    | 0 => (inferInstance : BI.Storable (upEmb : UEmb _ 𝕄) (bigSep Finset.univ fun i : Fin 16 => tileDone d (names m d) (times m d) (rate m d) (Fin.cast nCore_zero c) i))
  go q d c i := match q with | 0 => tileGo_storable d (names m d) (times m d) (rate m d) (Fin.cast nCore_zero c) (Fin.cast nSub_zero i)
  td q d c i := match q with | 0 => tileDone_storable d (names m d) (times m d) (rate m d) (Fin.cast nCore_zero c) (Fin.cast nSub_zero i)

theorem defs₀_vector (c : Fin τ.nSC) (i : Fin τ.nSub) :
    defs₀ (F := F) (.scVector c i) 0 ()
      = SparseCore.onTile hcore0 hsub0 (fun c i => cc0__sc_hist (coordsV c i)
          aV (Memref.isWhole_whole _) bV (Memref.isWhole_whole _) nV (Memref.isWhole_whole _) hV (Memref.isWhole_whole _)
          sIdx (Memref.isWhole_whole _) sDt (Memref.isWhole_whole _) sTab (Memref.isWhole_whole _) sNg (Memref.isWhole_whole _)
          cc0_scoped0 cc0_scoped1 cc0_scoped2 cc0_scoped3 cc0_scoped4 cc0_scoped5 cc0_scoped6 cc0_scoped7 cc0_scoped8 cc0_scoped9 cc0_scoped10 cc0_scoped11 cc0_scoped12)
          ⟨⟩ c i := rfl

omit [FloatOps F] in
/-- A tile waits for nothing but its own copies, which is no wait of the launch's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 1024 in
/-- Every tile's task meets the launch's obligation when the names are bins. -/
theorem tileObl (hA : ∀ d x, (names m d x : BitVec 32).toNat < 24) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) facts (names m d) (times m d) (rate m d) (hA d) (tileShare ⟨_, hc.1⟩ ⟨_, hc.2⟩) O W hO).trans
    (wp_mono frame _ _ fun _ => obl_post)

/-- A SparseCore's share of the call is its tiles' shares. -/
theorem vecSplit : (K (F := F)).VecSplit' (P m) 0 := by
  intro d c
  show (bigSep Finset.univ fun i : Fin 16 => tileGo d (names m d) (times m d) (rate m d) (Fin.cast nCore_zero c) i) ⊢ |={Set.univ}=> iprop(
      (bigSep Finset.univ fun i : Fin ((K (F := F)).nSub 0) => tileGo d (names m d) (times m d) (rate m d) (Fin.cast nCore_zero c) (Fin.cast nSub_zero i))
      ∗ ((bigSep Finset.univ fun i : Fin ((K (F := F)).nSub 0) => tileDone d (names m d) (times m d) (rate m d) (Fin.cast nCore_zero c) (Fin.cast nSub_zero i))
          -∗ bigSep Finset.univ fun i : Fin 16 => tileDone d (names m d) (times m d) (rate m d) (Fin.cast nCore_zero c) i))
  iintro H; imodintro
  isplitl [H]; · iexact H
  iintro H; iexact H

end Launch

/-! ## The table array and the tiles' pieces -/

/-- The places of chunk `r` of tile `(c, i)`. -/
abbrev pieceSet (t : Fin 2 × Fin 16 × Fin 4) : Finset S2097152.Idx := (hChunk (coordsV t.1 t.2.1) t.2.2).view.set

/-- A place is in a chunk when its row is. -/
theorem mem_pieceSet (t : Fin 2 × Fin 16 × Fin 4) (x : S2097152.Idx) :
    x ∈ pieceSet t ↔ 128 * (1024 * t.2.1.val + 512 * t.1.val + 128 * t.2.2.val) ≤ (x 0).val
      ∧ (x 0).val < 128 * (1024 * t.2.1.val + 512 * t.1.val + 128 * t.2.2.val) + 16384 := by
  obtain ⟨c, i, r⟩ := t
  constructor
  · intro h
    obtain ⟨y, -, rfl⟩ := Finset.mem_map.mp h
    have hy : y = place ⟨(y 0).val, (y 0).isLt⟩ := funext fun a => by
      match a with
      | ⟨0, _⟩ => rfl
      | ⟨k + 1, h⟩ => exact absurd h (by simp)
    have hlt : (y 0).val < 16384 := (y 0).isLt
    have hb := firstRow_le (coordsV c i) r
    have e := hChunk_emb (coordsV c i) r ⟨(y 0).val, (y 0).isLt⟩ (by show _ < 2097152; show 128 * firstRow (coordsV c i) r + (y 0).val < 2097152; omega)
    rw [← hy] at e
    have e0 : (((hChunk (coordsV c i) r).view.emb y) 0).val = 128 * firstRow (coordsV c i) r + (y 0).val := by rw [e]; rfl
    have e1 : firstRow (coordsV c i) r = 1024 * i.val + 512 * c.val + 128 * r.val := rfl
    rw [e1] at e0
    show 128 * (1024 * i.val + 512 * c.val + 128 * r.val) ≤ (((hChunk (coordsV c i) r).view.emb y) 0).val
      ∧ (((hChunk (coordsV c i) r).view.emb y) 0).val < 128 * (1024 * i.val + 512 * c.val + 128 * r.val) + 16384
    omega
  · intro ⟨h1, h2⟩
    have hx : x = gplace ⟨(x 0).val, (x 0).isLt⟩ := funext fun a => by
      match a with
      | ⟨0, _⟩ => rfl
      | ⟨k + 1, h⟩ => exact absurd h (by simp)
    have e1 : firstRow (coordsV c i) r = 1024 * i.val + 512 * c.val + 128 * r.val := rfl
    have h1' : 128 * firstRow (coordsV c i) r ≤ (x 0).val := by rw [e1]; exact h1
    have h2' : (x 0).val < 128 * firstRow (coordsV c i) r + 16384 := by rw [e1]; exact h2
    have hlt : (x 0).val < 2097152 := (x 0).isLt
    refine Finset.mem_map.mpr ⟨place ⟨(x 0).val - 128 * firstRow (coordsV c i) r, by omega⟩, Finset.mem_univ _, ?_⟩
    have e := hChunk_emb (coordsV c i) r ⟨(x 0).val - 128 * firstRow (coordsV c i) r, by omega⟩
      (by show 128 * firstRow (coordsV c i) r + ((x 0).val - 128 * firstRow (coordsV c i) r) < 2097152; omega)
    refine e.trans (Eq.trans ?_ hx.symm)
    exact congrArg gplace (Fin.ext (by show 128 * firstRow (coordsV c i) r + ((x 0).val - 128 * firstRow (coordsV c i) r) = (x 0).val; omega))

theorem pieces_disjoint : ∀ t ∈ (Finset.univ : Finset (Fin 2 × Fin 16 × Fin 4)), ∀ t' ∈ (Finset.univ : Finset (Fin 2 × Fin 16 × Fin 4)),
    t ≠ t' → Disjoint (pieceSet t) (pieceSet t') := by
  rintro ⟨c, i, r⟩ - ⟨c', i', r'⟩ - hne
  refine Finset.disjoint_left.mpr fun x hx hx' => hne ?_
  rw [mem_pieceSet] at hx hx'
  dsimp only at hx hx'
  have := c.isLt; have := c'.isLt; have := r.isLt; have := r'.isLt
  have h1 : i.val = i'.val := by omega
  have h2 : c.val = c'.val := by omega
  have h3 : r.val = r'.val := by omega
  rw [Fin.ext h1, Fin.ext h2, Fin.ext h3]

theorem pieces_cover : (Finset.univ : Finset (Fin 2 × Fin 16 × Fin 4)).biUnion pieceSet = Finset.univ := by
  refine Finset.eq_univ_of_forall fun x => ?_
  have hx : (x 0).val < 2097152 := (x 0).isLt
  refine Finset.mem_biUnion.mpr ⟨(⟨(x 0).val / 65536 % 2, by omega⟩, ⟨(x 0).val / 131072, by omega⟩, ⟨(x 0).val / 16384 % 4, by omega⟩), Finset.mem_univ _, ?_⟩
  rw [mem_pieceSet]
  dsimp only
  omega

omit [FloatOps F] in
/-- The table array, whole, is the tiles' pieces of it. -/
theorem table_pieces (d : Dev nD) (f : Vec F S2097152 .f32) :
    (hLoc d ↦{fullShare} f : sProp 𝕄) = bigSep Finset.univ fun c : Fin 2 => bigSep Finset.univ fun i : Fin 16 => bigSep Finset.univ fun r : Fin 4 =>
      hPiece d (coordsV c i) r f := by
  have h := pointsTo_biUnion (ℓ := hLoc d) (q := fullShare) (f := f) (Ix := HIx 1) (Val := Elt F) (Name := ℕ) (U := UU) (Lvl := ℕ) Finset.univ pieceSet pieces_disjoint
  rw [pieces_cover] at h
  refine Eq.trans h ?_
  rw [bigSep_univ_prod]
  refine bigSep_congr fun c _ => ?_
  rw [bigSep_univ_prod]

omit [FloatOps F] in
/-- An array every tile reads is dealt out among the tiles. -/
theorem read_shares (ℓ : Loc nD τ sig) (f : Buf (Elt F) ℓ) :
    (ℓ ↦{fullShare} f : sProp 𝕄) = bigSep Finset.univ fun c : Fin 2 => bigSep Finset.univ fun i : Fin 16 => ℓ ↦{tileShare c i} f := by
  refine (Transfers.pointsTo_deal (ℓ := ℓ) (f := f) (Finset.univ : Finset (Fin 2)) ⟨0, Finset.mem_univ _⟩ fullShare).trans ?_
  refine bigSep_congr fun c _ => ?_
  exact Transfers.pointsTo_deal (ℓ := ℓ) (f := f) (Finset.univ : Finset (Fin 16)) ⟨0, Finset.mem_univ _⟩ _

omit [FloatOps F] in
theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-- Over all tiles, what they are handed is the read shares and the pieces. -/
theorem go_all (d : Dev nD) (A : Vec F S16384x200 .i32) (B : Vec F S16384x200 .f32) (n : Vec F S16 .f32) :
    (bigSep Finset.univ fun c : Fin 2 => bigSep Finset.univ fun i : Fin 16 => tileGo d A B n c i)
      = iprop((aLoc d ↦{fullShare} A) ∗ (bLoc d ↦{fullShare} B) ∗ (nLoc d ↦{fullShare} n)
          ∗ bigSep Finset.univ fun c : Fin 2 => bigSep Finset.univ fun i : Fin 16 => bigSep Finset.univ fun r : Fin 4 => iprop(∃ f, hPiece d (coordsV c i) r f)) := by
  rw [read_shares (aLoc d) A, read_shares (bLoc d) B, read_shares (nLoc d) n, ← bigSep_sep', ← bigSep_sep', ← bigSep_sep']
  refine bigSep_congr fun c _ => ?_
  rw [← bigSep_sep', ← bigSep_sep', ← bigSep_sep']
  refine bigSep_congr fun i _ => ?_
  rw [bigSep_four]; rfl

/-- Over all tiles, what they bring back is the read shares and the pieces, right. -/
theorem done_all (d : Dev nD) (A : Vec F S16384x200 .i32) (B : Vec F S16384x200 .f32) (n : Vec F S16 .f32) :
    (bigSep Finset.univ fun c : Fin 2 => bigSep Finset.univ fun i : Fin 16 => tileDone d A B n c i)
      = iprop((aLoc d ↦{fullShare} A) ∗ (bLoc d ↦{fullShare} B) ∗ (nLoc d ↦{fullShare} n)
          ∗ bigSep Finset.univ fun c : Fin 2 => bigSep Finset.univ fun i : Fin 16 => bigSep Finset.univ fun r : Fin 4 =>
            iprop(∃ f, ⌜RowsOK A B n (firstRow (coordsV c i) r) (firstRow (coordsV c i) r + 128) f⌝ ∗ hPiece d (coordsV c i) r f)) := by
  rw [read_shares (aLoc d) A, read_shares (bLoc d) B, read_shares (nLoc d) n, ← bigSep_sep', ← bigSep_sep', ← bigSep_sep']
  refine bigSep_congr fun c _ => ?_
  rw [← bigSep_sep', ← bigSep_sep', ← bigSep_sep']
  refine bigSep_congr fun i _ => ?_
  rw [bigSep_four]; rfl

omit [FloatOps F] in
/-- The table array goes out in pieces. -/
theorem pieces_out (d : Dev nD) (f : Vec F S2097152 .f32) :
    (hLoc d ↦{fullShare} f : sProp 𝕄) ⊢ bigSep Finset.univ fun c : Fin 2 => bigSep Finset.univ fun i : Fin 16 => bigSep Finset.univ fun r : Fin 4 =>
      iprop(∃ f, hPiece d (coordsV c i) r f) := by
  rw [table_pieces d f]
  refine bigSep_mono fun c _ => bigSep_mono fun i _ => bigSep_mono fun r _ => ?_
  exact exists_intro (PROP := sProp 𝕄) (Φ := fun f => hPiece d (coordsV c i) r f) f

/-- Row `R` lies in the chunk of the tile that works on it. -/
theorem row_piece (R : Fin 16384) (b : Fin 24) :
    ∃ t : Fin 2 × Fin 16 × Fin 4, gplace ⟨128 * R.val + b.val, by omega⟩ ∈ pieceSet t
      ∧ firstRow (coordsV t.1 t.2.1) t.2.2 ≤ R.val ∧ R.val < firstRow (coordsV t.1 t.2.1) t.2.2 + 128 := by
  have hR := R.isLt
  have hb := b.isLt
  have hk : ∃ t : Fin 2 × Fin 16 × Fin 4, 1024 * t.2.1.val + 512 * t.1.val + 128 * t.2.2.val ≤ R.val ∧ R.val < 1024 * t.2.1.val + 512 * t.1.val + 128 * t.2.2.val + 128 :=
    ⟨(⟨R.val / 512 % 2, by omega⟩, ⟨R.val / 1024, by omega⟩, ⟨R.val / 128 % 4, by omega⟩), by dsimp only; omega⟩
  obtain ⟨t, h1, h2⟩ := hk
  refine ⟨t, (mem_pieceSet t _).mpr ?_, h1, h2⟩
  show 128 * (1024 * t.2.1.val + 512 * t.1.val + 128 * t.2.2.val) ≤ 128 * R.val + b.val ∧ 128 * R.val + b.val < 128 * (1024 * t.2.1.val + 512 * t.1.val + 128 * t.2.2.val) + 16384
  omega

/-- The pieces, each right, are the table array, right in every row. -/
theorem pieces_back (d : Dev nD) (A : Vec F S16384x200 .i32) (B : Vec F S16384x200 .f32) (n : Vec F S16 .f32) :
    (bigSep Finset.univ fun c : Fin 2 => bigSep Finset.univ fun i : Fin 16 => bigSep Finset.univ fun r : Fin 4 =>
        iprop(∃ f, ⌜RowsOK A B n (firstRow (coordsV c i) r) (firstRow (coordsV c i) r + 128) f⌝ ∗ hPiece d (coordsV c i) r f))
      ⊢ (iprop(∃ f, ⌜RowsOK A B n 0 16384 f⌝ ∗ hLoc d ↦{fullShare} f) : sProp 𝕄) := by
  have e : (bigSep Finset.univ fun c : Fin 2 => bigSep Finset.univ fun i : Fin 16 => bigSep Finset.univ fun r : Fin 4 =>
        (iprop(∃ f, ⌜RowsOK A B n (firstRow (coordsV c i) r) (firstRow (coordsV c i) r + 128) f⌝ ∗ hPiece d (coordsV c i) r f) : sProp 𝕄))
      = bigSep Finset.univ fun t : Fin 2 × Fin 16 × Fin 4 =>
        iprop(∃ f : Vec F S2097152 .f32, ⌜RowsOK A B n (firstRow (coordsV t.1 t.2.1) t.2.2) (firstRow (coordsV t.1 t.2.1) t.2.2 + 128) f⌝ ∗ hLoc d ↦[pieceSet t]{fullShare} f) := by
    rw [bigSep_univ_prod]
    refine bigSep_congr fun c _ => ?_
    rw [bigSep_univ_prod]
  rw [e]
  haveI hne : Nonempty (Vec F S2097152 .f32) := ⟨fun _ => zeroF⟩
  refine (bigSep_exists_pi (Y := fun _ => Vec F S2097152 .f32) Finset.univ fun (t : Fin 2 × Fin 16 × Fin 4) (f : Vec F S2097152 .f32) =>
    (iprop(⌜RowsOK A B n (firstRow (coordsV t.1 t.2.1) t.2.2) (firstRow (coordsV t.1 t.2.1) t.2.2 + 128) f⌝ ∗ hLoc d ↦[pieceSet t]{fullShare} f) : sProp 𝕄)).trans ?_
  iintro ⟨%fs, H⟩
  ihave H := (bigSep_pure_sep Finset.univ _ _) $$ H
  icases H with ⟨%hp, H⟩
  ihave H := (pointsTo_biUnion_join (ℓ := hLoc d) (q := fullShare) (Val := Elt F) Finset.univ pieceSet fs (fs (0, 0, 0)) pieces_disjoint) $$ H
  rw [pieces_cover]
  icases H with ⟨%g, %hg, H⟩
  iexists g
  isplitr
  · ipureintro
    intro R b _ _
    obtain ⟨t, hm, h1, h2⟩ := row_piece R b
    exact (hg t (Finset.mem_univ _) _ hm).trans (hp t (Finset.mem_univ _) R b h1 h2)
  · iexact H

section Call

variable (m : (ℓ : Loc nD τ sig) → Buf (Elt F) ℓ)

/-- What the call takes: the names, the times and the rate, whole, and the table array at anything. -/
theorem call_in (d : Dev nD) (f : Vec F S2097152 .f32) :
    iprop((aLoc d ↦{fullShare} names m d) ∗ (bLoc d ↦{fullShare} times m d) ∗ (nLoc d ↦{fullShare} rate m d) ∗ hLoc d ↦{fullShare} f)
      ⊢ (bigSep Finset.univ fun c : Fin ((K (F := F)).nCore 0) => (P m).st 0 d c : sProp 𝕄) := by
  show _ ⊢ (bigSep Finset.univ fun c : Fin 2 => bigSep Finset.univ fun i : Fin 16 => tileGo d (names m d) (times m d) (rate m d) c i)
  rw [go_all]
  iintro ⟨Ha, Hb, Hn, Hh⟩
  isplitl [Ha]; · iexact Ha
  isplitl [Hb]; · iexact Hb
  isplitl [Hn]; · iexact Hn
  iapply (pieces_out d f); iexact Hh

/-- What the call brings back: the same, the table array right in every row. -/
theorem call_out (d : Dev nD) :
    (bigSep Finset.univ fun c : Fin ((K (F := F)).nCore 0) => (P m).dn 0 d c : sProp 𝕄)
      ⊢ iprop((aLoc d ↦{fullShare} names m d) ∗ (bLoc d ↦{fullShare} times m d) ∗ (nLoc d ↦{fullShare} rate m d)
        ∗ ∃ f, ⌜RowsOK (names m d) (times m d) (rate m d) 0 16384 f⌝ ∗ hLoc d ↦{fullShare} f) := by
  show (bigSep Finset.univ fun c : Fin 2 => bigSep Finset.univ fun i : Fin 16 => tileDone d (names m d) (times m d) (rate m d) c i) ⊢ _
  rw [done_all]
  iintro ⟨Ha, Hb, Hn, Hh⟩
  isplitl [Ha]; · iexact Ha
  isplitl [Hb]; · iexact Hb
  isplitl [Hn]; · iexact Hn
  iapply (pieces_back d (names m d) (times m d) (rate m d)); iexact Hh

end Call

end Cert.Proof
-- ==== Proof.Dense.lean ====
/-
  The TensorCore kernel after the histogram: its body run on one block, its proof data on the grid of sixteen blocks, and
  its region of the program, entered from any contents of the arrays.
-/
module

public import proofs.«01_k».proof.Proof.Setup
public import Idealize.ShloMosaic.Lib.Pipeline.RegionsLoop
public import Idealize.ShloMosaic.Lib.Pipeline.FrameBody
public import Idealize.ShloMosaic.Lib.Pipeline.Value
public import Idealize.ShloMosaic.Lib.Tactic
public import proofs.«01_k».proof.Proof.Gen.KernelIdeal.Launch
public import proofs.«01_k».proof.Proof.Gen.KernelIdeal.Points
public import proofs.«01_k».proof.Proof.Gen.KernelIdeal.Skeleton

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The columns of a block the kernel reads: the first twenty-four. -/
abbrev firstCols : Rect S1024x128 := Rect.unit (s := S1024x128) ![0, 0] S1024x24.size inb_S1024x128_S1024x24_0_0

/-- What the kernel computes of a block of totals, the weights, the bias and the two rows of the normalisation. -/
def denseBlk (x : Vec F S1024x24 .f32) (w : Vec F S24x128 .f32) (b g z : Vec F S1x128 .f32) : Vec F S1024x128 .f32 :=
  k1_pay1 (k1_pay2 x w b g z) (k1_pay3 x w b g z)

/-- The kernel's body on one block. -/
theorem dense_triple (c : Dev nD) (i : grid1.Coords)
    (M0 : Memref sig .tc .vmem S1024x128 .f32) (h0 : M0.IsWhole) (M1 : Memref sig .tc .vmem S24x128 .f32) (h1 : M1.IsWhole)
    (M2 : Memref sig .tc .vmem S1x128 .f32) (h2 : M2.IsWhole) (M3 : Memref sig .tc .vmem S1x128 .f32) (h3 : M3.IsWhole)
    (M4 : Memref sig .tc .vmem S1x128 .f32) (h4 : M4.IsWhole) (M5 : Memref sig .tc .vmem S1024x128 .f32) (h5 : M5.IsWhole)
    (X0 : Vec F S1024x128 .f32) (X1 : Vec F S24x128 .f32) (X2 X3 X4 : Vec F S1x128 .f32) (X5 : Vec F S1024x128 .f32) (Q : PUnit → sProp 𝕄) :
    iprop(owns c M0 fullShare X0 ∗ owns c M1 fullShare X1 ∗ owns c M2 fullShare X2 ∗ owns c M3 fullShare X3 ∗ owns c M4 fullShare X4
        ∗ owns c M5 fullShare X5
        ∗ (iprop(owns c M0 fullShare X0 ∗ owns c M1 fullShare X1 ∗ owns c M2 fullShare X2 ∗ owns c M3 fullShare X3 ∗ owns c M4 fullShare X4
            ∗ owns c M5 fullShare (denseBlk (View.ld X0 firstCols) X1 X2 X3 X4)) -∗ Q ⟨⟩))
      ⊢ wp frame (wpE (defs₀ (F := F)) 𝒱₀ c none) Set.univ (cc1__dense_body i M0 h0 M1 h1 M2 h2 M3 h3 M4 h4 M5 h5) Q := by
  have hz : (![0, 0] : Fin 2 → ℕ) = fun _ => 0 := by funext a; fin_cases a <;> rfl
  simp only [cc1__dense_body_eq_skeleton]; unfold cc1__dense_body_skel
  simp only [k1_part1_eq_skeleton]; unfold k1_part1_skel
  unfold owns
  rw [h0.set_eq_univ, h1.set_eq_univ, h2.set_eq_univ, h3.set_eq_univ, h4.set_eq_univ, h5.set_eq_univ]
  iintro ⟨⟨%f0, %e0, H0⟩, ⟨%f1, %e1, H1⟩, ⟨%f2, %e2, H2⟩, ⟨%f3, %e3, H3⟩, ⟨%f4, %e4, H4⟩, ⟨%f5, -, H5⟩, Hk⟩
  sl_exec
  sl_step
  iapply Hk
  isplitl [H0]; · iexists _; isplitr; swap; (· iexact H0); ipureintro; exact e0
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  isplitl [H4]; · iexists _; isplitr; swap; (· iexact H4); ipureintro; exact e4
  iexists _; isplitr; swap; (· iexact H5); ipureintro
  funext y
  refine (View.read_writes_cons_hit_of_coords M5.view f5 _ _ _ y y fun a => by fin_cases a <;> simp).trans ?_
  dsimp only
  simp only [View.readAt_eq_ld, e0, e1, e2, e3, e4]
  have l1 : View.ld X1 (Rect.unit ![0, 0] ![24, 128] inb_S24x128_S24x128_0_0) = X1 := View.ld_unit_zero (S := S24x128) hz _ X1
  have l2 : View.ld X2 (Rect.unit ![0, 0] ![1, 128] inb_S1x128_S1x128_0_0) = X2 := View.ld_unit_zero (S := S1x128) hz _ X2
  have l3 : View.ld X3 (Rect.unit ![0, 0] ![1, 128] inb_S1x128_S1x128_0_0) = X3 := View.ld_unit_zero (S := S1x128) hz _ X3
  have l4 : View.ld X4 (Rect.unit ![0, 0] ![1, 128] inb_S1x128_S1x128_0_0) = X4 := View.ld_unit_zero (S := S1x128) hz _ X4
  rw [l1, l2, l3, l4]
  rfl

section Region

variable (V : (c : Dev nD) → (b : Ref sig .tc) → Buf (Elt F) ((c : Thread nD τ).loc b))

/-- Window `w`'s block at point `t`, of the arrays at `V`. -/
abbrev blkAt (c : Dev nD) (w : Fin 6) (t : Fin cfg1.N) : ((cfg1.win w).xblock (cfg1.grid.coords t)).Idx → Elt F (cfg1.win w).elt :=
  ((cfg1.win w).blk t).view.read (Elt F) (V c (Pipeline.arrRef spec1 w))

/-- What the kernel leaves at point `t`. -/
abbrev outAt (c : Dev nD) (t : Fin cfg1.N) : Vec F S1024x128 .f32 :=
  denseBlk (View.ld (e' := .f32) (Val := Elt F) (S := S1024x128) (blkAt V c 0 t) firstCols) (blkAt V c 1 t) (blkAt V c 2 t) (blkAt V c 3 t) (blkAt V c 4 t)

/-- The invariant between the region's ends: the buffers of the kernel no window stages. -/
abbrev Φc (c : Dev nD) : sProp 𝕄 := Pipeline.scopedRest (Ix := HIx 1) (Name := ℕ) (U := UU) (Lvl := ℕ) (Val := Elt F) spec1 c

/-- The kernel's proof data over the arrays at `V`: every input buffer at its block, the output's at what the kernel computes. -/
def dat (c : Dev nD) : Dat τ (Elt F) (HIx 1) ℕ UU ℕ cfg1 c where
  A w := V c (Pipeline.arrRef spec1 w)
  after w t := match w with
    | ⟨0, _⟩ => blkAt V c 0 t
    | ⟨1, _⟩ => blkAt V c 1 t
    | ⟨2, _⟩ => blkAt V c 2 t
    | ⟨3, _⟩ => blkAt V c 3 t
    | ⟨4, _⟩ => blkAt V c 4 t
    | ⟨5, _⟩ => outAt V c t
  Φ _ := Φc c
  q _ := fullShare
  owed _ := 0
  recorded _ := {p | (K (F := F)).lev (SparseCore.T c, p.1) p.2 ≤ 8}

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat V c

theorem before0 (c : Dev nD) (t : Fin cfg1.N) (d) : (dat V c).before 0 t d = blkAt V c 0 t :=
  (dat V c).before_in_eq_fetched 0 rfl (fun _ => rfl) (fun _ _ _ => rfl) (fun _ => rfl) t d
theorem before1 (c : Dev nD) (t : Fin cfg1.N) (d) : (dat V c).before 1 t d = blkAt V c 1 t :=
  (dat V c).before_in_eq_fetched 1 rfl (fun _ => rfl) (fun _ _ _ => rfl) (fun _ => rfl) t d
theorem before2 (c : Dev nD) (t : Fin cfg1.N) (d) : (dat V c).before 2 t d = blkAt V c 2 t :=
  (dat V c).before_in_eq_fetched 2 rfl (fun _ => rfl) (fun _ _ _ => rfl) (fun _ => rfl) t d
theorem before3 (c : Dev nD) (t : Fin cfg1.N) (d) : (dat V c).before 3 t d = blkAt V c 3 t :=
  (dat V c).before_in_eq_fetched 3 rfl (fun _ => rfl) (fun _ _ _ => rfl) (fun _ => rfl) t d
theorem before4 (c : Dev nD) (t : Fin cfg1.N) (d) : (dat V c).before 4 t d = blkAt V c 4 t :=
  (dat V c).before_in_eq_fetched 4 rfl (fun _ => rfl) (fun _ _ _ => rfl) (fun _ => rfl) t d

/-- The kernel's body meets the pipeline's obligation at every point. -/
theorem body_obligation (c : Dev nD) : BodyObligation (dat V c) (defs₀ (F := F)) 𝒱₀ none Set.univ := fun t => by
  rw [bigSep_W1, bigSep_W1]
  rw [show (dat V c).Φ t.castSucc = Φc c from rfl, show (dat V c).Φ t.succ = Φc c from rfl,
    show (dat V c).owesAt none t.succ = (dat V c).owesAt none t.castSucc from rfl]
  iintro ⟨HΦ, Howes, ⟨%d0, H0⟩, ⟨%d1, H1⟩, ⟨%d2, H2⟩, ⟨%d3, H3⟩, ⟨%d4, H4⟩, ⟨%d5, H5⟩⟩
  rw [before0 V c t d0, before1 V c t d1, before2 V c t d2, before3 V c t d3, before4 V c t d4]
  iapply (dense_triple c (grid1.coords t) (st1_0 t) (hstage1_0 _) (st1_1 t) (hstage1_1 _) (st1_2 t) (hstage1_2 _) (st1_3 t) (hstage1_3 _)
    (st1_4 t) (hstage1_4 _) (st1_5 t) (hstage1_5 _) (blkAt V c 0 t) (blkAt V c 1 t) (blkAt V c 2 t) (blkAt V c 3 t) (blkAt V c 4 t) _ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  iexact H5

/-- The result's array after the region. -/
def result (c : Dev nD) : Buf (Elt F) ((c : Thread nD τ).loc main_v8) := (dat V c).arrAt 5 cfg1.N

variable (Vp : (c : Dev nD) → (b : Ref sig .tc) → Buf (Elt F) ((c : Thread nD τ).loc b))

/-- The core owes nothing, and every wait it has recorded sits below the calls still to come. -/
def waitsDone (c : Dev nD) : sProp 𝕄 :=
  iprop(∃ W, ⌜(K (F := F)).WBelow (SparseCore.T c) W 8⌝ ∗ owes (c : Thread nD τ) (0 : CellTallies nD τ sig (HIx 1)) W)

set_option backward.isDefEq.respectTransparency.types false in
/-- The region, entered with every array at `V` and left with the result's array changed. -/
def reg (R : Dev nD → sProp 𝕄) (hVp_out : ∀ c, Vp c main_v8 = result V c)
    (hVp_ne : ∀ c (b : Ref sig .tc), b ≠ main_v8 → Vp c b = V c b) :
    Pipeline.RegionSeg (pcfgs (F := F)) adm (pdats V adm) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ _ _ 0 fun _ _ => rfl
  pre c := iprop(unscopedBufs c (V c) ∗ R c ∗ waitsDone c)
  post c := iprop(unscopedBufs c (Vp c) ∗ R c ∗ waitsDone c)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats V adm) launch1.win launch1.arr_whole c
      ((pdats V adm 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold waitsDone Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats V adm 0 c).Φ 0 = Φc c from rfl]
    iintro ⟨-, -, Hr⟩; iexact Hr
  hout c := by
    rw [Pipeline.ownSems0_none, show (pdats V adm 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V adm) ((pdats V adm 0 c).share_full fun _ => rfl) (V c) (Vp c) ((pdats V adm 0 c).arrAt · cfg1.N)
      (fun w => by
        fin_cases w
        · exact ((pdats V adm 0 c).arrAt_in 0 rfl _).trans (hVp_ne c main_v4 (by decide)).symm
        · exact ((pdats V adm 0 c).arrAt_in 1 rfl _).trans (hVp_ne c main_arg4 (by decide)).symm
        · exact ((pdats V adm 0 c).arrAt_in 2 rfl _).trans (hVp_ne c main_v5 (by decide)).symm
        · exact ((pdats V adm 0 c).arrAt_in 3 rfl _).trans (hVp_ne c main_v6 (by decide)).symm
        · exact ((pdats V adm 0 c).arrAt_in 4 rfl _).trans (hVp_ne c main_v7 (by decide)).symm
        · exact (hVp_out c).symm)
      (fun b hb => hVp_ne c b fun h => hb (h ▸ Finset.mem_image.mpr ⟨5, Finset.mem_univ _, rfl⟩))
    iintro ⟨Ha, HO, -, Hrest, HR⟩
    imodintro
    isplitl [Ha Hrest]
    · iapply hjoin; isplitl [Ha] <;> iassumption
    isplitl [HR]; · iexact HR
    unfold waitsDone Pipeline.Dat.owesAt Pipeline.owesWithin
    icases HO with ⟨%W, %hW, HO⟩; iexists W; isplitr; swap; (· iexact HO)
    ipureintro
    intro p hp
    rcases hW hp with h | ⟨w, s, rfl⟩
    · exact h
    · exact Nat.zero_le _

end Region

end Cert.Proof
-- ==== Proof.Blocks.lean ====
/-
  The result's array after the TensorCore region, read at one place: the kernel's value on the block of rows the place
  lies in.
-/
module

public import proofs.«01_k».proof.Proof.Dense

@[expose] public section

noncomputable section

namespace Cert.Proof

open Cert.KernelIdeal Cert.KernelIdeal.Gen

open Idealize.ShloMosaic Idealize.ShloMosaic.TcCoe Idealize.SL.Sem
open Idealize.ShloMosaic.Pipeline (Dat)

variable {F : FTy → Type} [FloatOps F]

/-- An index of the table array by its row and column, and of a block of the result. -/
abbrev hcell (R : Fin 16384) (j : Fin 128) : S16384x128.Idx := Fin.cons R (Fin.cons j fun a => a.elim0)
abbrev bcell (r : Fin 1024) (j : Fin 128) : S1024x128.Idx := Fin.cons r (Fin.cons j fun a => a.elim0)

/-- The row `r` rows into the block of 1024 that row `R` lies in. -/
abbrev inBlock (R : Fin 16384) (r : Fin 1024) : Fin 16384 := ⟨1024 * (R.val / 1024) + r.val, by omega⟩

/-- The kernel's value at every place, from a table `h` of rows by bins. -/
def headOf (h : Fin 16384 → Fin 24 → F .f32) (w : Vec F S24x128 .f32) (b g z : Vec F S1x128 .f32) : Vec F S16384x128 .f32 := fun i =>
  denseBlk (fun y => h (inBlock (i 0) (y 0)) (y 1)) w b g z (bcell ⟨(i 0).val % 1024, Nat.mod_lt _ (by decide)⟩ (i 1))

variable (V : (c : Dev nD) → (b : Ref sig .tc) → Buf (Elt F) ((c : Thread nD τ).loc b))

/-- Where the blocks of the table and of the result start. -/
theorem index_rows : ∀ t : Fin cfg1.N, win1_0.index t 0 = t.val ∧ win1_0.index t 1 = 0 ∧ win1_5.index t 0 = t.val ∧ win1_5.index t 1 = 0
    ∧ win1_5.xsize (grid1.coords t) 0 = 1024 ∧ win1_5.xsize (grid1.coords t) 1 = 128 :=
  (by decide +kernel : ∀ t : Fin grid1.N, _)

/-- The other windows' block is their whole array at every point. -/
theorem index_whole : ∀ t : Fin cfg1.N, (win1_1.index t 0 = 0 ∧ win1_1.index t 1 = 0) ∧ (win1_2.index t 0 = 0 ∧ win1_2.index t 1 = 0)
    ∧ (win1_3.index t 0 = 0 ∧ win1_3.index t 1 = 0) ∧ (win1_4.index t 0 = 0 ∧ win1_4.index t 1 = 0) :=
  (by decide +kernel : ∀ t : Fin grid1.N, _)

theorem blk1_eq (c : Dev nD) (t : Fin cfg1.N) : blkAt V c 1 t = V c main_arg4 := by
  funext y
  exact congrArg (V c main_arg4) (funext fun a => Fin.ext (by
    match a with
    | ⟨0, _⟩ => exact Pipeline.Window.rect_emb_val_of_index_zero win1_1 t 0 (index_whole t).1.1 y
    | ⟨1, _⟩ => exact Pipeline.Window.rect_emb_val_of_index_zero win1_1 t 1 (index_whole t).1.2 y))

theorem blk2_eq (c : Dev nD) (t : Fin cfg1.N) : blkAt V c 2 t = V c main_v5 := by
  funext y
  exact congrArg (V c main_v5) (funext fun a => Fin.ext (by
    match a with
    | ⟨0, _⟩ => exact Pipeline.Window.rect_emb_val_of_index_zero win1_2 t 0 (index_whole t).2.1.1 y
    | ⟨1, _⟩ => exact Pipeline.Window.rect_emb_val_of_index_zero win1_2 t 1 (index_whole t).2.1.2 y))

theorem blk3_eq (c : Dev nD) (t : Fin cfg1.N) : blkAt V c 3 t = V c main_v6 := by
  funext y
  exact congrArg (V c main_v6) (funext fun a => Fin.ext (by
    match a with
    | ⟨0, _⟩ => exact Pipeline.Window.rect_emb_val_of_index_zero win1_3 t 0 (index_whole t).2.2.1.1 y
    | ⟨1, _⟩ => exact Pipeline.Window.rect_emb_val_of_index_zero win1_3 t 1 (index_whole t).2.2.1.2 y))

theorem blk4_eq (c : Dev nD) (t : Fin cfg1.N) : blkAt V c 4 t = V c main_v7 := by
  funext y
  exact congrArg (V c main_v7) (funext fun a => Fin.ext (by
    match a with
    | ⟨0, _⟩ => exact Pipeline.Window.rect_emb_val_of_index_zero win1_4 t 0 (index_whole t).2.2.2.1 y
    | ⟨1, _⟩ => exact Pipeline.Window.rect_emb_val_of_index_zero win1_4 t 1 (index_whole t).2.2.2.2 y))

/-- The rows and columns of the table the kernel reads at point `t`. -/
theorem blk0_eq (c : Dev nD) (t : Fin cfg1.N) (y : S1024x24.Idx) :
    View.ld (e' := .f32) (Val := Elt F) (S := S1024x128) (blkAt V c 0 t) firstCols y
      = (V c main_v4 : Vec F S16384x128 .f32) (hcell ⟨1024 * t.val + (y 0).val, by have := t.isLt; have : cfg1.N = 16 := N_1; have : (y 0).val < 1024 := (y 0).isLt; omega⟩
          ⟨(y 1).val, by have : (y 1).val < 24 := (y 1).isLt; omega⟩) := by
  show (V c main_v4 : Vec F S16384x128 .f32) ((win1_0.rect t).emb (firstCols.emb y)) = _
  refine congrArg (V c main_v4 : Vec F S16384x128 .f32) (funext fun a => Fin.ext ?_)
  match a with
  | ⟨0, _⟩ =>
    refine (Pipeline.Window.rect_emb_val win1_0 t (firstCols.emb y) 0).trans ?_
    rw [(index_rows t).1]
    show t.val * 1024 + (0 + 1 * (y 0).val) = 1024 * t.val + (y 0).val
    omega
  | ⟨1, _⟩ =>
    refine (Pipeline.Window.rect_emb_val win1_0 t (firstCols.emb y) 1).trans ?_
    rw [(index_rows t).2.1]
    show 0 * 128 + (0 + 1 * (y 1).val) = (y 1).val
    omega

/-- The table as the kernel reads it: the first 24 columns. -/
abbrev tableAt (c : Dev nD) : Fin 16384 → Fin 24 → F .f32 := fun R b =>
  (V c main_v4 : Vec F S16384x128 .f32) (hcell R ⟨b.val, by omega⟩)

/-- What point `t` writes back is its block of the whole-array value. -/
theorem flushed_eq (c : Dev nD) (t : Fin cfg1.N) :
    (dat V c).flushed 5 t = ((cfg1.win 5).blk t).view.read (Elt F)
      (headOf (tableAt V c) (V c main_arg4) (V c main_v5) (V c main_v6) (V c main_v7)) := by
  show outAt V c t = _
  unfold outAt
  rw [blk1_eq, blk2_eq, blk3_eq, blk4_eq]
  funext y
  have hN : cfg1.N = 16 := N_1
  have ht := t.isLt
  have h0 : (y 0).val < 1024 := (y 0).isLt
  have e0 : ((win1_5.rect t).emb y 0 : Nat) = 1024 * t.val + (y 0).val := by
    refine (Pipeline.Window.rect_emb_val win1_5 t y 0).trans ?_
    rw [(index_rows t).2.2.1]
    show t.val * 1024 + (y 0).val = _
    omega
  have e1 : ((win1_5.rect t).emb y 1 : Nat) = (y 1).val :=
    Pipeline.Window.rect_emb_val_of_index_zero win1_5 t 1 (index_rows t).2.2.2.1 y
  show _ = headOf (tableAt V c) (V c main_arg4) (V c main_v5) (V c main_v6) (V c main_v7) ((win1_5.rect t).emb y)
  unfold headOf
  have hx : (fun y => View.ld (e' := .f32) (Val := Elt F) (S := S1024x128) (blkAt V c 0 t) firstCols y)
      = fun y' : S1024x24.Idx => tableAt V c (inBlock ((win1_5.rect t).emb y 0) (y' 0)) (y' 1) := by
    funext y'
    refine (blk0_eq V c t y').trans ?_
    refine congrArg (V c main_v4 : Vec F S16384x128 .f32) (congrArg (fun r => hcell r _) (Fin.ext ?_))
    show 1024 * t.val + (y' 0).val = 1024 * (((win1_5.rect t).emb y 0 : Nat) / 1024) + (y' 0).val
    rw [e0]; omega
  have hy : y = bcell ⟨((win1_5.rect t).emb y 0).val % 1024, Nat.mod_lt _ (by decide)⟩ ((win1_5.rect t).emb y 1) := by
    funext a
    match a with
    | ⟨0, _⟩ => exact Fin.ext (show (y 0).val = ((win1_5.rect t).emb y 0 : Nat) % 1024 by rw [e0]; omega)
    | ⟨1, _⟩ => exact Fin.ext e1.symm
  exact congr (congrArg (fun x => denseBlk x (V c main_arg4) (V c main_v5) (V c main_v6) (V c main_v7)) hx) hy

theorem mem_blk (t : Fin cfg1.N) (i : S16384x128.Idx) :
    i ∈ ((cfg1.win 5).blk t).view.set ↔ t.val * 1024 ≤ (i 0 : Nat) ∧ (i 0 : Nat) < t.val * 1024 + 1024 := by
  show i ∈ ((View.whole main_v8).slice (win1_5.rect t)).set ↔ _
  rw [View.set_slice_whole, Rect.mem_set_unit]
  have h1 : (i 1 : Nat) < 128 := (i 1).isLt
  obtain ⟨-, -, e0, e1, e2, e3⟩ := index_rows t
  have f0 : win1_5.index t 0 * win1_5.size 0 = t.val * 1024 := by rw [e0]; rfl
  have f1 : win1_5.index t 1 * win1_5.size 1 = 0 := by rw [e1]; exact Nat.zero_mul _
  refine ⟨fun h => ?_, fun h a => ?_⟩
  · have : win1_5.index t 0 * win1_5.size 0 ≤ (i 0 : Nat) ∧ (i 0 : Nat) < win1_5.index t 0 * win1_5.size 0 + win1_5.xsize (grid1.coords t) 0 := h 0
    rw [f0, e2] at this; exact this
  · match a with
    | ⟨0, _⟩ =>
      show win1_5.index t 0 * win1_5.size 0 ≤ (i 0 : Nat) ∧ (i 0 : Nat) < win1_5.index t 0 * win1_5.size 0 + win1_5.xsize (grid1.coords t) 0
      rw [f0, e2]; exact h
    | ⟨1, _⟩ =>
      show win1_5.index t 1 * win1_5.size 1 ≤ (i 1 : Nat) ∧ (i 1 : Nat) < win1_5.index t 1 * win1_5.size 1 + win1_5.xsize (grid1.coords t) 1
      rw [f1, e3]; omega

theorem cover (i : S16384x128.Idx) : ∃ t : Fin cfg1.N, (cfg1.win 5).flush t = true ∧ i ∈ ((cfg1.win 5).blk t).view.set := by
  have h0 : (i 0 : Nat) < 16384 := (i 0).isLt
  have hN : cfg1.N = 16 := N_1
  refine ⟨⟨(i 0 : Nat) / 1024, by omega⟩, flush1_5 _, ?_⟩
  rw [mem_blk]
  dsimp only
  omega

/-- The result's array after the region. -/
theorem result_eq (c : Dev nD) :
    result V c = headOf (tableAt V c) (V c main_arg4) (V c main_v5) (V c main_v6) (V c main_v7) :=
  (dat V c).arrAt_eq_of_cover 5 (headOf (tableAt V c) (V c main_arg4) (V c main_v5) (V c main_v6) (V c main_v7))
    (fun t _ => flushed_eq V c t) cover

end Cert.Proof
-- ==== Proof.Main.lean ====
/-
  The whole program: the TensorCore's line of operations around the call of the tiles and the region of the dense kernel,
  the launch, and the run's ends — the result's array at a function of the arguments, the arguments as at launch, every
  semaphore at zero.
-/
module

public import proofs.«01_k».proof.Proof.Launch
public import proofs.«01_k».proof.Proof.Blocks
public import Idealize.ShloMosaic.Lib.Pipeline.Frame

@[expose] public section

noncomputable section

namespace Cert.Proof

open Cert.KernelIdeal Cert.KernelIdeal.Gen

open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Rounds
open Idealize.ShloMosaic.Pipeline (ucRefs)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays' contents along @main -/

abbrev dref (b : Ref sig .tc) : DevRef τ sig := Proc.devRef .tc b

abbrev opExp : HloOp τ sig (Elt F) := StableHlo.unary main_arg3 main_v0 (Host.exp : (⟨S_, .f32⟩ : BufTy).Contents (Elt F) → (⟨S_, .f32⟩ : BufTy).Contents (Elt F))
abbrev opNeg : HloOp τ sig (Elt F) := StableHlo.unary main_v0 main_v1 (Host.negf : (⟨S_, .f32⟩ : BufTy).Contents (Elt F) → (⟨S_, .f32⟩ : BufTy).Contents (Elt F))
abbrev opSpread : HloOp τ sig (Elt F) := StableHlo.unary main_v1 main_v2 (broadcastInDim S16 ![] bcast_S_S16 : (⟨S_, .f32⟩ : BufTy).Contents (Elt F) → (⟨S16, .f32⟩ : BufTy).Contents (Elt F))
abbrev opTable : HloOp τ sig (Elt F) := StableHlo.reshape main_v3 main_v4 (rfl : (.f32 : EltTy) = .f32) shapeCasts_S2097152_S16384x128
abbrev opRow5 : HloOp τ sig (Elt F) := StableHlo.reshape main_arg5 main_v5 (rfl : (.f32 : EltTy) = .f32) shapeCasts_S128_S1x128
abbrev opRow6 : HloOp τ sig (Elt F) := StableHlo.reshape main_arg6 main_v6 (rfl : (.f32 : EltTy) = .f32) shapeCasts_S128_S1x128
abbrev opRow7 : HloOp τ sig (Elt F) := StableHlo.reshape main_arg7 main_v7 (rfl : (.f32 : EltTy) = .f32) shapeCasts_S128_S1x128

theorem opExp_sub : (opExp (F := F)).bufs ⊆ ucRefs τ sig := Pipeline.sub_ucRefs _ (unary_bufs_sub ..)
theorem opNeg_sub : (opNeg (F := F)).bufs ⊆ ucRefs τ sig := Pipeline.sub_ucRefs _ (unary_bufs_sub ..)
theorem opSpread_sub : (opSpread (F := F)).bufs ⊆ ucRefs τ sig := Pipeline.sub_ucRefs _ (unary_bufs_sub ..)
theorem opTable_sub : (opTable (F := F)).bufs ⊆ ucRefs τ sig := Pipeline.sub_ucRefs _ (reshape_bufs_sub ..)
theorem opRow5_sub : (opRow5 (F := F)).bufs ⊆ ucRefs τ sig := Pipeline.sub_ucRefs _ (reshape_bufs_sub ..)
theorem opRow6_sub : (opRow6 (F := F)).bufs ⊆ ucRefs τ sig := Pipeline.sub_ucRefs _ (reshape_bufs_sub ..)
theorem opRow7_sub : (opRow7 (F := F)).bufs ⊆ ucRefs τ sig := Pipeline.sub_ucRefs _ (reshape_bufs_sub ..)

/-- The contents at launch, when the tiles are called, when they are done, when the region is entered and when it is left. -/
def atLaunch (d : Dev nD) : Valuation τ sig (Elt F) := fun b => m (d, b)
def atCall (d : Dev nD) : Valuation τ sig (Elt F) := opSpread.result (opNeg.result (opExp.result (atLaunch m d)))
def atDone (f : Vec F S2097152 .f32) (d : Dev nD) : Valuation τ sig (Elt F) := Function.update (atCall m d) (dref main_v3) f
def atRegion (f : Vec F S2097152 .f32) (d : Dev nD) : Valuation τ sig (Elt F) :=
  opRow7.result (opRow6.result (opRow5.result (opTable.result (atDone m f d))))
def atRegionTc (f : Vec F S2097152 .f32) (d : Dev nD) (b : Ref sig .tc) : Buf (Elt F) ((SparseCore.T d : Thread nD τ).loc b) := atRegion m f d (dref b)
def atEnd (f : Vec F S2097152 .f32) (d : Dev nD) : Valuation τ sig (Elt F) :=
  Function.update (atRegion m f d) (dref main_v8) (result (atRegionTc m f) d)

/-- A vector of 128 as one row. -/
abbrev asRow (x : Vec F S128 .f32) : Vec F S1x128 .f32 := shapeCast S1x128 x shapeCasts_S128_S1x128

/-- What the program leaves in the result's array. -/
def kerOut (d : Dev nD) : Vec F S16384x128 .f32 :=
  headOf (fun R b => rowBin (names m d) (times m d) (rate m d) R b.val) (m ((SparseCore.T d).loc main_arg4) : Vec F S24x128 .f32)
    (asRow (m ((SparseCore.T d).loc main_arg5))) (asRow (m ((SparseCore.T d).loc main_arg6))) (asRow (m ((SparseCore.T d).loc main_arg7)))

theorem atCall_ne (d : Dev nD) {b : Ref sig .tc} (h0 : b ≠ main_v0) (h1 : b ≠ main_v1) (h2 : b ≠ main_v2) :
    atCall m d (dref b) = m (d, dref b) := by
  unfold atCall
  rw [unary_result_ne (h := h2), unary_result_ne (h := h1), unary_result_ne (h := h0)]
  rfl

theorem atCall_rate (d : Dev nD) : atCall m d (dref main_v2) = rate m d := by
  unfold atCall
  rw [unary_result, unary_result, unary_result]
  rfl

theorem atRegion_ne (f : Vec F S2097152 .f32) (d : Dev nD) {b : Ref sig .tc} (h4 : b ≠ main_v4) (h5 : b ≠ main_v5) (h6 : b ≠ main_v6) (h7 : b ≠ main_v7) :
    atRegion m f d (dref b) = atDone m f d (dref b) := by
  unfold atRegion
  rw [reshape_result_ne (h := h7), reshape_result_ne (h := h6), reshape_result_ne (h := h5), reshape_result_ne (h := h4)]

theorem atDone_ne (f : Vec F S2097152 .f32) (d : Dev nD) {b : Ref sig .tc} (h : dref b ≠ dref main_v3) :
    atDone m f d (dref b) = atCall m d (dref b) := Function.update_of_ne h _ _

theorem atRegion_v4 (f : Vec F S2097152 .f32) (d : Dev nD) :
    atRegion m f d (dref main_v4) = shapeCast S16384x128 f shapeCasts_S2097152_S16384x128 := by
  unfold atRegion
  rw [reshape_result_ne (h := by decide), reshape_result_ne (h := by decide), reshape_result_ne (h := by decide), reshape_result]
  unfold atDone
  rw [Function.update_self]
  rfl

theorem atRegion_v5 (f : Vec F S2097152 .f32) (d : Dev nD) :
    atRegion m f d (dref main_v5) = asRow (m ((SparseCore.T d).loc main_arg5)) := by
  unfold atRegion
  rw [reshape_result_ne (h := by decide), reshape_result_ne (h := by decide), reshape_result, reshape_result_ne (h := by decide),
    atDone_ne (h := by decide), atCall_ne (h0 := by decide) (h1 := by decide) (h2 := by decide)]
  rfl

theorem atRegion_v6 (f : Vec F S2097152 .f32) (d : Dev nD) :
    atRegion m f d (dref main_v6) = asRow (m ((SparseCore.T d).loc main_arg6)) := by
  unfold atRegion
  rw [reshape_result_ne (h := by decide), reshape_result, reshape_result_ne (h := by decide), reshape_result_ne (h := by decide),
    atDone_ne (h := by decide), atCall_ne (h0 := by decide) (h1 := by decide) (h2 := by decide)]
  rfl

theorem atRegion_v7 (f : Vec F S2097152 .f32) (d : Dev nD) :
    atRegion m f d (dref main_v7) = asRow (m ((SparseCore.T d).loc main_arg7)) := by
  unfold atRegion
  rw [reshape_result, reshape_result_ne (h := by decide), reshape_result_ne (h := by decide), reshape_result_ne (h := by decide),
    atDone_ne (h := by decide), atCall_ne (h0 := by decide) (h1 := by decide) (h2 := by decide)]
  rfl

/-- An argument no operation writes is at the end as at launch. -/
theorem atEnd_arg (f : Vec F S2097152 .f32) (d : Dev nD) {b : Ref sig .tc} (h0 : b ≠ main_v0) (h1 : b ≠ main_v1) (h2 : b ≠ main_v2)
    (h3 : dref b ≠ dref main_v3) (h4 : b ≠ main_v4) (h5 : b ≠ main_v5) (h6 : b ≠ main_v6) (h7 : b ≠ main_v7) (h8 : dref b ≠ dref main_v8) :
    atEnd m f d (dref b) = m (d, dref b) := by
  unfold atEnd
  rw [Function.update_of_ne h8, atRegion_ne m f d h4 h5 h6 h7, atDone_ne m f d h3, atCall_ne m d h0 h1 h2]

/-- The table array read as rows of 128. -/
theorem table_cast (f : Vec F S2097152 .f32) (R : Fin 16384) (j : Fin 128) :
    shapeCast S16384x128 f shapeCasts_S2097152_S16384x128 (hcell R j) = f (gplace ⟨128 * R.val + j.val, by omega⟩) := by
  refine shapeCast_apply (s := S2097152) (t := S16384x128) f _ (hcell R j) (gplace ⟨128 * R.val + j.val, by omega⟩) ?_
  rw [Shape.rowMajor_val_one, Shape.rowMajor_val_two]
  show 128 * R.val + j.val = R.val * 128 + j.val
  omega

/-- A table array with every row right makes the result what it should be. -/
theorem atEnd_out (f : Vec F S2097152 .f32) (d : Dev nD) (hf : RowsOK (names m d) (times m d) (rate m d) 0 16384 f) :
    atEnd m f d (dref main_v8) = kerOut m d := by
  unfold atEnd
  rw [Function.update_self, result_eq]
  unfold kerOut atRegionTc
  have ht : tableAt (atRegionTc m f) d = fun R b => rowBin (names m d) (times m d) (rate m d) R b.val := by
    funext R b
    show (atRegion m f d (dref main_v4) : Vec F S16384x128 .f32) _ = _
    rw [atRegion_v4, table_cast]
    exact hf R b (Nat.zero_le _) R.isLt
  have h4 : atRegion m f d (dref main_arg4) = m ((SparseCore.T d).loc main_arg4) := by
    rw [atRegion_ne m f d (by decide) (by decide) (by decide) (by decide), atDone_ne (h := by decide), atCall_ne (h0 := by decide) (h1 := by decide) (h2 := by decide)]
  rw [atRegion_v5, atRegion_v6, atRegion_v7, h4]
  exact congrArg (fun t => headOf t _ _ _ _) ht

/-! ## What the call takes out of the arrays -/

/-- The arrays of the call. -/
abbrev callRefs : Finset (DevRef τ sig) := {dref main_arg0, dref main_arg1, dref main_v2, dref main_v3}

theorem callRefs_sub : callRefs ⊆ ucRefs τ sig := by decide

omit [FloatOps F] in
theorem held_call (d : Dev nD) (W : Valuation τ sig (Elt F)) :
    (held (SparseCore.T d) callRefs W : sProp 𝕄) = iprop((aLoc d ↦{fullShare} W (dref main_arg0)) ∗ (bLoc d ↦{fullShare} W (dref main_arg1))
      ∗ (nLoc d ↦{fullShare} W (dref main_v2)) ∗ hLoc d ↦{fullShare} W (dref main_v3)) := by
  unfold held callRefs
  rw [SparseCore.bigSep_insert' (by decide), SparseCore.bigSep_insert' (by decide), SparseCore.bigSep_insert' (by decide), bigSep_singleton]

theorem held_atCall (d : Dev nD) :
    (held (SparseCore.T d) (ucRefs τ sig) (atCall m d) : sProp 𝕄)
      = iprop(((aLoc d ↦{fullShare} names m d) ∗ (bLoc d ↦{fullShare} times m d) ∗ (nLoc d ↦{fullShare} rate m d)
          ∗ hLoc d ↦{fullShare} atCall m d (dref main_v3)) ∗ held (SparseCore.T d) (ucRefs τ sig \ callRefs) (atCall m d)) := by
  rw [held_sub_split _ callRefs_sub, held_call, atCall_rate, atCall_ne (h0 := by decide) (h1 := by decide) (h2 := by decide),
    atCall_ne (h0 := by decide) (h1 := by decide) (h2 := by decide)]

theorem held_atDone (f : Vec F S2097152 .f32) (d : Dev nD) :
    (held (SparseCore.T d) (ucRefs τ sig) (atDone m f d) : sProp 𝕄)
      = iprop(((aLoc d ↦{fullShare} names m d) ∗ (bLoc d ↦{fullShare} times m d) ∗ (nLoc d ↦{fullShare} rate m d)
          ∗ hLoc d ↦{fullShare} f) ∗ held (SparseCore.T d) (ucRefs τ sig \ callRefs) (atCall m d)) := by
  rw [held_sub_split _ callRefs_sub, held_call, atDone_ne (h := by decide), atDone_ne (h := by decide), atDone_ne (h := by decide), atCall_rate,
    atCall_ne (h0 := by decide) (h1 := by decide) (h2 := by decide), atCall_ne (h0 := by decide) (h1 := by decide) (h2 := by decide)]
  rw [show atDone m f d (dref main_v3) = f from Function.update_self _ _ _]
  rw [held_congr (V := atDone m f d) (V' := atCall m d) (SparseCore.T d) fun b hb => Function.update_of_ne
    (fun h => (Finset.mem_sdiff.mp hb).2 (h ▸ by decide)) _ _]

theorem unscoped_atLaunch (d : Dev nD) :
    (unscopedBufs d (fun b => m ((SparseCore.T d).loc b)) : sProp 𝕄) = held (SparseCore.T d) (ucRefs τ sig) (atLaunch m d) :=
  Pipeline.unscopedBufs_held d (atLaunch m d)

/-! ## The launch's ghost state -/

abbrev adm : (p : Fin 1) → (pcfgs (F := F) p).Adm := fun p => (cfgs p).toPCfg_adm

abbrev pcells : UP := initOf (Pipeline.cells (Pipeline.pin (pcfgs (F := F)) adm) cellOf_inj) (Pipeline.launchToks (Pipeline.pin (pcfgs (F := F)) adm) cellOf_inj)

def u₀ : UU := (initOf (K (F := F)).hsCells (K (F := F)).hsToks, (pcells (F := F), 1))

/-- What a device's TensorCore is dealt for its pipeline. -/
def G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
/-- The one pipeline's part of a family over the pipelines. -/
theorem pick0 (Φ : Fin 1 → Dev nD → sProp 𝕄) :
    (bigSep Finset.univ fun c : Dev nD => bigSep Finset.univ fun p : Fin 1 => Φ p c) ⊢ bigSep Finset.univ fun c : Dev nD => Φ 0 c :=
  bigSep_mono fun _ _ => bigSep_elim (Finset.mem_univ (0 : Fin 1))

omit [FloatOps F] in
theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => (G d : sProp 𝕄))
        ∗ bigSep Finset.univ fun thr : Thread nD τ => bigSep Finset.univ fun q : Fin 1 => (P m).x q thr) := by
  unfold u₀
  iintro Hu
  ihave H := (ownU_pair _ _) $$ Hu
  icases H with ⟨HH, HP⟩
  ihave HP' := (show (BI.own (embR (pcells (F := F), (1 : Counters))) : sProp 𝕄) ⊢ BI.own (EP (pcells (F := F))) from Entails.of_eq rfl) $$ HP
  imod (Pipeline.fund_ghost (Pipeline.pin (pcfgs (F := F)) adm) EP cellOf_inj) $$ HP' with ⟨Hg, Ht⟩
  imodintro
  isplitl [HH]; · iexact HH
  isplitl [Hg Ht]
  · unfold G
    rw [bigSep_sep']
    isplitl [Hg]
    · iapply (pick0 fun p c => Pipeline.cellsGhost (Pipeline.pin (pcfgs (F := F)) adm) EP p c); iexact Hg
    · iapply (pick0 fun p c => Pipeline.toksInit (Pipeline.pin (pcfgs (F := F)) adm) EP p c); iexact Ht
  unfold P; dsimp only
  rw [show (bigSep Finset.univ fun _ : Thread nD τ => bigSep Finset.univ fun _ : Fin 1 => (iprop(emp) : sProp 𝕄)) = iprop(emp) from by
    rw [bigSep_congr fun _ _ => bigSep_none _, bigSep_none]]
  iempintro

/-! ## @main -/

/-- What the end's contents have to be. -/
def EndOK (d : Dev nD) (W : Valuation τ sig (Elt F)) : Prop :=
  W (dref main_v8) = kerOut m d ∧ W (dref main_arg0) = m (d, dref main_arg0) ∧ W (dref main_arg1) = m (d, dref main_arg1)
    ∧ W (dref main_arg2) = m (d, dref main_arg2) ∧ W (dref main_arg3) = m (d, dref main_arg3) ∧ W (dref main_arg4) = m (d, dref main_arg4)
    ∧ W (dref main_arg5) = m (d, dref main_arg5) ∧ W (dref main_arg6) = m (d, dref main_arg6) ∧ W (dref main_arg7) = m (d, dref main_arg7)

theorem atEnd_ok (f : Vec F S2097152 .f32) (d : Dev nD) (hf : RowsOK (names m d) (times m d) (rate m d) 0 16384 f) : EndOK m d (atEnd m f d) := by
  refine ⟨atEnd_out m f d hf, ?_, ?_, ?_, ?_, ?_, ?_, ?_, ?_⟩ <;>
    exact atEnd_arg m f d (by decide) (by decide) (by decide) (by decide) (by decide) (by decide) (by decide) (by decide) (by decide)

/-- What @main leaves. -/
def FIN (d : Dev nD) : sProp 𝕄 := iprop(∃ W : Valuation τ sig (Elt F), ⌜EndOK m d W⌝ ∗ held (SparseCore.T d) (ucRefs τ sig) W)

/-- The TensorCore's handshake state after the call but for the waits it has recorded. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_one (d : Dev nD) : ((K (F := F)).tcSt EH d 1 : sProp 𝕄) = iprop(waitsDone d ∗ tcRest d) := by
  unfold SparseCore.Cfg.tcSt
  rw [(K (F := F)).Otc_end d (le_refl 1)]
  rfl

/-- The region's segment in @main. -/
abbrev mainReg (f : Vec F S2097152 .f32) :=
  reg (atRegionTc m f) adm (fun d b => atEnd m f d (dref b)) (fun _ => iprop(emp))
    (fun _ => Function.update_self _ _ _) (fun _ b hb => Function.update_of_ne (devRef_ne_of_ne hb) _ _)

/-- What the region is entered with. -/
theorem mainReg_pre (f : Vec F S2097152 .f32) (d : Dev nD) :
    (mainReg m f).pre d = iprop(unscopedBufs d (atRegionTc m f d) ∗ emp ∗ waitsDone d) := rfl

/-- What the region is left with. -/
theorem mainReg_post (f : Vec F S2097152 .f32) (d : Dev nD) :
    (mainReg m f).post d = iprop(unscopedBufs d (fun b => atEnd m f d (dref b)) ∗ emp ∗ waitsDone d) := rfl

/-- The region as @main runs it: from the arrays as they stand to the arrays with the result written. -/
theorem region_step [∀ e, Nonempty (Elt F e)] (f : Vec F S2097152 .f32) (d : Dev nD) (Q : PUnit → sProp 𝕄) :
    iprop((iprop(boundary (SparseCore.T d) ∗ held (SparseCore.T d) (ucRefs τ sig) (atEnd m f d) ∗ waitsDone d) -∗ Q ⟨⟩)
        ∗ boundary (SparseCore.T d) ∗ held (SparseCore.T d) (ucRefs τ sig) (atRegion m f d) ∗ waitsDone d
        ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Q := by
  have h₁ := Pipeline.RegionSeg.wp (α := PUnit) pcfgs adm (pdats (atRegionTc m f) adm) none cellOf_inj EP defs₀ 𝒱₀ (K (F := F)).L (K (F := F)).lev
    (mainReg m f) d none
    (fun _ h => nomatch h) .ret Q
  have h₂ := (K (F := F)).wp_liftProg (D (F := F)) 𝒱 (SparseCore.T d) Set.univ none (.op (.customCall (Pipeline.entry 0) ()) .ret) Q
  refine BIBase.Entails.trans ?_ (h₁.trans h₂)
  rw [mainReg_pre, mainReg_post]
  iintro ⟨Hk, Hb, Hheld, HW, Hlv, HG⟩
  unfold G
  icases HG with ⟨Hg, Ht⟩
  isplitl [Hk]
  · iintro ⟨Hb, Hpost⟩
    icases Hpost with ⟨Hub, -, HW⟩
    rw [wp_ret]; imodintro
    iapply Hk
    isplitl [Hb]; · iexact Hb
    isplitl [Hub]
    · iapply (Entails.of_eq (Pipeline.unscopedBufs_held d (atEnd m f d))); iexact Hub
    · iexact HW
  isplitl [Hb]; · iexact Hb
  isplitl [Hheld HW]
  · isplitl [Hheld]
    · iapply (Entails.of_eq (Pipeline.unscopedBufs_held d (atRegion m f d)).symm); iexact Hheld
    isplitr; · iempintro
    iexact HW
  isplitl [Hlv]; · iexact Hlv
  isplitl [Hg] <;> iassumption

set_option maxHeartbeats 4000000 in
/-- @main on a device's TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_atLaunch]
  simp only [main, wp_bind, wp_pure]
  iintro ⟨#Hctx, Hst, ⟨Hb, Hheld, Hts, -⟩, HG⟩
  iapply (wp_hlo_within 𝒱 (SparseCore.T d) none Set.univ (op := opExp) (S := ucRefs τ sig) opExp_sub (V := atLaunch m d)) $$ [Hb Hheld]
  · isplitl [Hb] <;> iassumption
  iintro ⟨Hb, Hheld⟩
  rw [wp_ret]; imodintro
  iapply (wp_hlo_within 𝒱 (SparseCore.T d) none Set.univ (op := opNeg) (S := ucRefs τ sig) opNeg_sub) $$ [Hb Hheld]
  · isplitl [Hb] <;> iassumption
  iintro ⟨Hb, Hheld⟩
  rw [wp_ret]; imodintro
  iapply (wp_hlo_within 𝒱 (SparseCore.T d) none Set.univ (op := opSpread) (S := ucRefs τ sig) opSpread_sub) $$ [Hb Hheld]
  · isplitl [Hb] <;> iassumption
  iintro ⟨Hb, Hheld⟩
  rw [wp_ret]; imodintro
  ihave Hheld := (show (held (SparseCore.T d) (ucRefs τ sig) (opSpread.result (opNeg.result (opExp.result (atLaunch m d)))) : sProp 𝕄) ⊢ _ from
    Entails.of_eq (held_atCall m d)) $$ Hheld
  icases Hheld with ⟨Hcall, Hrest⟩
  iapply ((K (F := F)).wp_run (D (F := F)) 𝒱 (EH := EH) (P := P m) κ d 0) $$ [Hst Hcall Hrest Hb Hts HG]
  isplitr; · iexact Hctx
  isplitl [Hst]; · iexact Hst
  isplitl [Hcall]
  · iapply (call_in m d _); iexact Hcall
  iintro ⟨Hst, Hdn⟩
  ihave Hdn := (call_out m d) $$ Hdn
  icases Hdn with ⟨Ha, Hbb, Hn, %f, %hf, Hh⟩
  ihave Hheld := (Entails.of_eq (held_atDone m f d).symm) $$ [Ha Hbb Hn Hh Hrest]
  · isplitr [Hrest]
    · isplitl [Ha]; · iexact Ha
      isplitl [Hbb]; · iexact Hbb
      isplitl [Hn]; · iexact Hn
      iexact Hh
    · iexact Hrest
  iapply (wp_hlo_within 𝒱 (SparseCore.T d) none Set.univ (op := opTable) (S := ucRefs τ sig) opTable_sub) $$ [Hb Hheld]
  · isplitl [Hb] <;> iassumption
  iintro ⟨Hb, Hheld⟩
  rw [wp_ret]; imodintro
  iapply (wp_hlo_within 𝒱 (SparseCore.T d) none Set.univ (op := opRow5) (S := ucRefs τ sig) opRow5_sub) $$ [Hb Hheld]
  · isplitl [Hb] <;> iassumption
  iintro ⟨Hb, Hheld⟩
  rw [wp_ret]; imodintro
  iapply (wp_hlo_within 𝒱 (SparseCore.T d) none Set.univ (op := opRow6) (S := ucRefs τ sig) opRow6_sub) $$ [Hb Hheld]
  · isplitl [Hb] <;> iassumption
  iintro ⟨Hb, Hheld⟩
  rw [wp_ret]; imodintro
  iapply (wp_hlo_within 𝒱 (SparseCore.T d) none Set.univ (op := opRow7) (S := ucRefs τ sig) opRow7_sub) $$ [Hb Hheld]
  · isplitl [Hb] <;> iassumption
  iintro ⟨Hb, Hheld⟩
  rw [wp_ret]; imodintro
  ihave #Hlv := (SparseCore.Cfg.ctx_levAts (K := K (F := F)) (EH := EH) (P := P m) κ) $$ Hctx
  ihave Hst := (show ((K (F := F)).tcSt EH d ((0 : Fin 1).val + 1) : sProp 𝕄) ⊢ iprop(waitsDone d ∗ tcRest d) from Entails.of_eq (tcSt_one d)) $$ Hst
  icases Hst with ⟨HW, Hrest⟩
  iapply (region_step m f d _)
  isplitr [Hb Hheld HW HG]
  · iintro ⟨Hb, Hpost⟩
    imodintro
    icases Hpost with ⟨Hub, HW⟩
    isplitl [HW Hrest]
    · rw [tcSt_one]
      isplitl [HW] <;> iassumption
    isplitl [Hub]
    · unfold FIN
      iexists (atEnd m f d)
      isplitr; · ipureintro; exact atEnd_ok m f d hf
      iexact Hub
    · isplitl [Hb] <;> iassumption
  isplitl [Hb]; · iexact Hb
  isplitl [Hheld]; · iexact Hheld
  isplitl [HW]; · iexact HW
  isplitr; · iexact Hlv
  iexact HG

/-! ## The run -/

/-- What the end's memory has to be on a device. -/
def fq (d : Dev nD) (s' : Phys nD τ sig (Elt F)) : Prop := EndOK m d fun b => s'.mem.mem (d, b)

omit [FloatOps F] in
/-- A held array is what the memory holds. -/
theorem held_agree (d : Dev nD) (W : Valuation τ sig (Elt F)) (s' : Phys nD τ sig (Elt F)) (b : DevRef τ sig) (hb : b ∈ ucRefs τ sig) :
    iprop((held (SparseCore.T d) (ucRefs τ sig) W : sProp 𝕄) ∗ SI s') ⊢ (⌜s'.mem.mem (d, b) = W b⌝ : sProp 𝕄) := by
  iintro ⟨Hx, HSI⟩
  ihave Hx := (show (held (SparseCore.T d) (ucRefs τ sig) W : sProp 𝕄) ⊢ ((d, b) : Loc nD τ sig) ↦{fullShare} W b from bigSep_elim hb) $$ Hx
  ihave H := (SI_pointsTo_agree (st := s') (ℓ := ((d, b) : Loc nD τ sig)) (I := Finset.univ) (q := fullShare) (f := W b)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  unfold FIN
  iintro ⟨⟨%W, %hW, Hh⟩, HSI⟩
  ihave H := (show iprop((held (SparseCore.T d) (ucRefs τ sig) W : sProp 𝕄) ∗ SI s') ⊢ (⌜∀ b : DevRef τ sig, b ∈ ucRefs τ sig → s'.mem.mem (d, b) = W b⌝ : sProp 𝕄) from
    (forall_intro fun b => (forall_intro fun hb => held_agree d W s' b hb).trans pure_forall.2).trans pure_forall.2) $$ [Hh HSI]
  · isplitl [Hh] <;> iassumption
  icases H with %hx
  ipureintro
  obtain ⟨h8, h0, h1, h2, h3, h4, h5, h6, h7⟩ := hW
  exact ⟨(hx _ (by decide)).trans h8, (hx _ (by decide)).trans h0, (hx _ (by decide)).trans h1, (hx _ (by decide)).trans h2, (hx _ (by decide)).trans h3,
    (hx _ (by decide)).trans h4, (hx _ (by decide)).trans h5, (hx _ (by decide)).trans h6, (hx _ (by decide)).trans h7⟩

/-- How the program ends. -/
def QC : PUnit × MemSt nD τ sig (Elt F) → Prop := fun r => (∀ d : Dev nD, EndOK m d fun b => r.2.mem (d, b)) ∧ r.2.sem = fun _ => 0

/-- From names in range, the program ends with its result at `kerOut`, its arguments as at launch and every semaphore at zero. -/
theorem run_main [∀ e, Nonempty (Elt F e)] (hA : ∀ d x, (names m d x : BitVec 32).toNat < 24) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hA)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof
-- ==== Proof.Drawn.lean ====
/- What the precondition says of the arguments: every name below 24, every time not below zero, every mask entry one. -/
module

public import proofs.«01_k».proof.Proof.Gen.Pre_drawn
public import Idealize.ShloMosaic.Lib.ReduceAll
public import Idealize.ShloMosaic.Lib.WordCmp
public import Idealize.ShloMosaic.PureOps.Ideal

@[expose] public section

noncomputable section

namespace Cert.Proof

open Cert.Pre_drawn Idealize.ShloMosaic Idealize.ShloMosaic.WordCmp

variable {F : FTy → Type} [FloatOps F]

instance : Subsingleton S_.Idx := ⟨fun _ _ => funext fun a => a.elim0⟩

/-- A conjunction of two bits is one exactly when both are. -/
theorem both_of_andi {a b : BitVec 1} (h : IntOp.andi a b = 1#1) : a = 1#1 ∧ b = 1#1 := by
  revert h; revert a b; decide

variable {a0 : IVec S16384x200 32} {a1 a2 : FVec F S16384x200 .f32} {a3 : FVec F S_ .f32} {a4 : FVec F S24x128 .f32}
  {a5 a6 a7 : FVec F S128 .f32}

/-- The precondition's three conjuncts, element by element. -/
theorem drawn_parts (h : Cert.Pre_drawn.fn a0 a1 a2 a3 a4 a5 a6 a7 = fun _ => 1#1) (x : S16384x200.Idx) :
    (a0 x).toNat < 24
      ∧ FloatOps.cmpf .oge (a1 x) (FloatOps.ofBits .f32 0x00000000#32) = 1#1
      ∧ FloatOps.cmpf .oeq (a2 x) (FloatOps.ofBits .f32 0x3F800000#32) = 1#1 := by
  have e := congrFun h (fun a => a.elim0)
  obtain ⟨e₁, e₂⟩ := both_of_andi e
  obtain ⟨e₀, e₁⟩ := both_of_andi e₁
  have k₀ := Host.reduce_andi_all _ _ _ _ _ e₀ x
  have k₁ := Host.reduce_andi_all _ _ _ _ _ e₁ x
  have k₂ := Host.reduce_andi_all _ _ _ _ _ e₂ x
  refine ⟨?_, k₁, k₂⟩
  have k : IntOp.andi (IntOp.cmpi .sge (a0 x) 0#32) (IntOp.cmpi .slt (a0 x) (BitVec.ofNat 32 24)) = 1#1 := k₀
  rw [andi_sge_zero_slt_ofNat (by decide), ofBool_decide_eq_one_iff] at k
  exact k

end Cert.Proof

end
-- ==== Proof.InRange.lean ====
/- What the frames' precondition says of the names: every one below 24. -/
module

public import proofs.«01_k».proof.Pre_in_range
public import proofs.«01_k».proof.Proof.Drawn

@[expose] public section

noncomputable section

namespace Cert.Proof

open Cert.Pre_in_range Idealize.ShloMosaic Idealize.ShloMosaic.WordCmp

/-- The side conditions of the precondition's operations. -/
instance inRangeFacts : Cert.Pre_in_range.Facts := ⟨by decide, by decide, by decide⟩

variable {F : FTy → Type} [FloatOps F]

/-- The precondition, element by element. -/
theorem in_range_name {a0 : IVec S16384x200 32} {a1 a2 : FVec F S16384x200 .f32} {a3 : FVec F S_ .f32} {a4 : FVec F S24x128 .f32}
    {a5 a6 a7 : FVec F S128 .f32} (h : Cert.Pre_in_range.fn a0 a1 a2 a3 a4 a5 a6 a7 = fun _ => 1#1) (x : S16384x200.Idx) :
    (a0 x).toNat < 24 := by
  have k : IntOp.andi (IntOp.cmpi .sge (a0 x) 0#32) (IntOp.cmpi .slt (a0 x) (BitVec.ofNat 32 24)) = 1#1 :=
    Host.reduce_andi_all _ _ _ _ _ (congrFun h fun a => a.elim0) x
  rw [andi_sge_zero_slt_ofNat (by decide), ofBool_decide_eq_one_iff] at k
  exact k

end Cert.Proof

end
-- ==== Proof.Frames.lean ====
/- The three frames: each program ends with its arguments as they were and every semaphore at zero. -/
module

public import proofs.«01_k».proof.Defs
public import proofs.«01_k».proof.Proof.Main
public import proofs.«01_k».proof.Proof.InRange
public import proofs.«01_k».proof.Proof.Gen.Kernel
public import proofs.«01_k».proof.Proof.Gen.ReferenceIdeal.Run
public import Idealize.ShloMosaic.Lib.Quiescent

@[expose] public section

noncomputable section

namespace Cert.Proof

open Idealize.ShloMosaic Idealize.SL.Sem

/-- The two texts of the kernel have the same kernels' bodies. -/
theorem bodies_same {F : FTy → Type} [FloatOps F] : @Cert.Kernel.defs₀ F _ _ = Cert.KernelIdeal.defs₀ := by
  funext p ℓ a
  match p, ℓ, a with
  | .scVector _ _, 0, _ => rfl
  | .scVector _ _, 1, _ => rfl
  | .scScalar _, 0, _ => rfl
  | .scScalar _, 1, _ => rfl
  | .tc, 0, _ => rfl
  | .tc, 1, (_, _) => rfl

/-- The two texts of the kernel have the same table of bodies. -/
theorem tables_same {F : FTy → Type} [FloatOps F] : @Cert.Kernel.defs F _ _ = Cert.KernelIdeal.defs := by
  unfold Cert.Kernel.defs Cert.KernelIdeal.defs
  rw [bodies_same]
  rfl

/-- The kernel as compiled: arguments unchanged, semaphores at zero. -/
theorem frame_kernel : Cert.quiescent_Kernel := fun m ρ hpre => by
  have h := run_main (F := Bits) m ρ fun d x => in_range_name (hpre d) x
  rw [← tables_same] at h
  exact (θ_run Cert.Kernel.defs _ _).mono (fun _ h => ⟨fun c => (h.1 c).2, h.2⟩) h

/-- The kernel over the extended reals: arguments unchanged, semaphores at zero. -/
theorem frame_kernel_ideal : Cert.quiescent_KernelIdeal := fun m ρ hpre =>
  (θ_run Cert.KernelIdeal.defs _ _).mono (fun _ h => ⟨fun c => (h.1 c).2, h.2⟩)
    (run_main (F := Ideal) m ρ fun d x => in_range_name (hpre d) x)

/-- The reference over the extended reals: arguments unchanged, semaphores at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Bins.lean ====
/-
  The kernel's bins over the extended reals: the thirteen pieces of sixteen lanes visit each of a row's 200 events once, so a
  bin is the sum of the weights of the events that name it.
-/
module

public import proofs.«01_k».proof.Proof.Tile
public import Idealize.ShloMosaic.PureOps.Ideal.Laws

@[expose] public section

noncomputable section

namespace Cert.Proof

open Cert.KernelIdeal Cert.KernelIdeal.Gen Idealize.ShloMosaic

/-- Adding to a total where a condition holds adds the sum of what is added. -/
theorem foldl_if_add {α : Type} (P : α → Prop) [DecidablePred P] (f : α → EReal) (l : List α) (a : EReal) :
    l.foldl (fun a k => if P k then a + f k else a) a = a + (l.map fun k => if P k then f k else 0).sum := by
  induction l generalizing a with
  | nil => simp
  | cons k l ih =>
    rw [List.foldl_cons, ih, List.map_cons, List.sum_cons, ← add_assoc]
    congr 1
    split <;> simp

/-- Folding steps that each add a number adds their sum. -/
theorem foldl_add {α : Type} (step : EReal → α → EReal) (f : α → EReal) (h : ∀ a k, step a k = a + f k) (l : List α) (a : EReal) :
    l.foldl step a = a + (l.map f).sum := by
  induction l generalizing a with
  | nil => simp
  | cons k l ih => rw [List.foldl_cons, ih, h, List.map_cons, List.sum_cons, ← add_assoc]

/-- A piece adds the weights of its counted events at the place. -/
theorem addPiece_ideal (at_ : Fin 200 → ℕ) (dt : Fin 200 → EReal) (v2 : Vec Ideal S16 .f32) (n : EReal)
    (hn : ∀ i, v2 i = n) (p : ℕ) (acc : EReal) (s : Fin 13) :
    addPiece (F := Ideal) at_ dt v2 p acc s
      = acc + ∑ k : Fin 16, if laneOn s k ∧ p = at_ (laneCol s k) then Ideal.exp (dt (laneCol s k) * n) else 0 := by
  unfold addPiece
  simp only [hn]
  rw [Fin.sum_univ_def]
  exact foldl_if_add (fun k => laneOn s k ∧ p = at_ (laneCol s k)) (fun k => Ideal.exp (dt (laneCol s k) * n)) _ _

/-- Which lanes count: all but the first eight of the last piece. -/
theorem laneOn_iff (s : Fin 13) (k : Fin 16) : laneOn s k ↔ (s.val = 12 → 8 ≤ k.val) := by
  revert s k; decide

/-- Where a piece starts. -/
theorem pieceCol_eq (s : Fin 13) : pieceCol s = if s.val = 12 then 184 else 16 * s.val := by
  revert s; decide

/-- The counted lanes of the pieces are a row's events. -/
theorem sum_lanes (G : Fin 200 → EReal) : (∑ s : Fin 13, ∑ k : Fin 16, if laneOn s k then G (laneCol s k) else 0) = ∑ l, G l := by
  rw [← Fintype.sum_prod_type' (f := fun s k => if laneOn s k then G (laneCol s k) else 0), ← Finset.sum_filter]
  refine Finset.sum_nbij' (fun q => laneCol q.1 q.2)
    (fun l => (⟨l.val / 16, by omega⟩, ⟨if l.val < 192 then l.val % 16 else l.val % 16 + 8, by split <;> omega⟩)) ?_ ?_ ?_ ?_ ?_
  · intro q _; exact Finset.mem_univ _
  · intro l _
    refine Finset.mem_filter.2 ⟨Finset.mem_univ _, (laneOn_iff _ _).2 fun e => ?_⟩
    simp only at e ⊢
    split <;> omega
  · rintro ⟨s, k⟩ h
    have h := (laneOn_iff _ _).1 (Finset.mem_filter.1 h).2
    have hs := s.isLt
    have hk := k.isLt
    simp only at h
    refine Prod.ext (Fin.ext ?_) (Fin.ext ?_) <;> simp only [laneCol, pieceCol_eq]
    · split <;> omega
    · split <;> split <;> omega
  · intro l _
    have hl := l.isLt
    apply Fin.ext
    simp only [laneCol, pieceCol_eq]
    split <;> split <;> omega
  · intro q _; rfl

/-- A bin is the sum of the weights of the events that name it. -/
theorem bin_ideal (nm : Fin 200 → BitVec 32) (dt : Fin 200 → EReal) (v2 : Vec Ideal S16 .f32) (n : EReal) (hn : ∀ i, v2 i = n) (b : ℕ) :
    bin (F := Ideal) nm dt v2 b = ∑ l : Fin 200, if (nm l).toNat = b then Ideal.exp (dt l * n) else 0 := by
  unfold bin
  rw [foldl_add _ _ (addPiece_ideal _ dt v2 n hn b), ← sum_lanes, Fin.sum_univ_def]
  have h0 : (zeroF (F := Ideal)) = (0 : EReal) := Ideal.ofBits_zero_f32
  have hl : allPieces = List.finRange 13 := by decide
  rw [h0, zero_add, hl]
  refine congrArg List.sum (List.map_congr_left fun s _ => Finset.sum_congr rfl fun k _ => ?_)
  rw [ite_and]
  simp only [eq_comm]

end Cert.Proof

end
-- ==== Proof.Head.lean ====
/-
  The dense head over the extended reals, row by row: the kernel's text and the reference's text as functions of a row's
  bins, and that they are one function.
-/
module

public import proofs.«01_k».proof.Proof.Blocks
public import Idealize.ShloMosaic.Lib.Pointwise
public import Idealize.ShloMosaic.PureOps.Ideal.Laws

@[expose] public section

noncomputable section

namespace Cert.Proof

open Cert.KernelIdeal Cert.KernelIdeal.Gen Idealize.ShloMosaic

/-- A row's bins over their sum, which counts as at least 1e-8. -/
def shares (p : Fin 24 → EReal) (k : Fin 24) : EReal := Ideal.div (p k) (max (∑ k, p k) (Ideal.ofBits .f32 0x322BCC77#32))

/-- The projection of a row. -/
def proj (p : Fin 24 → EReal) (w : Fin 24 → Fin 128 → EReal) (b : Fin 128 → EReal) (j : Fin 128) : EReal :=
  (∑ k, shares p k * w k j) + b j

/-- A row less its mean. -/
def centred (x : Fin 128 → EReal) (j : Fin 128) : EReal := x j - Ideal.div (∑ j, x j) (Ideal.ofBits .f32 0x43000000#32)

/-- A row's variance and the small number added to it. -/
def spread (c : Fin 128 → EReal) : EReal := Ideal.div (∑ j, c j * c j) (Ideal.ofBits .f32 0x43000000#32) + Ideal.ofBits .f32 0x3727C5AC#32

/-- The kernel's normalised row. -/
def normK (c g z : Fin 128 → EReal) (j : Fin 128) : EReal := c j * Ideal.rsqrt (spread c) * g j + z j

/-- The kernel's GELU. -/
def geluK (y : EReal) : EReal := y * Ideal.ofBits .f32 0x3F000000#32 * (1 + Ideal.erf (y * Ideal.ofBits .f32 0x3F3504F3#32))

/-- The kernel's row. -/
def rowK (p : Fin 24 → EReal) (w : Fin 24 → Fin 128 → EReal) (b g z : Fin 128 → EReal) (j : Fin 128) : EReal :=
  geluK (normK (centred (proj p w b)) g z j)

/-- The kernel's block at a place is its row's. -/
theorem denseBlk_apply (x : Vec Ideal S1024x24 .f32) (w : Vec Ideal S24x128 .f32) (b g z : Vec Ideal S1x128 .f32) (r : Fin 1024) (j : Fin 128) :
    denseBlk x w b g z (ix2 r j)
      = rowK (fun k => x (ix2 r k)) (fun k j => w (ix2 k j)) (fun j => b (ix2 0 j)) (fun j => g (ix2 0 j)) (fun j => z (ix2 0 j)) j := by
  pointwise [denseBlk, k1_pay1, k1_pay2, k1_pay3]
  rfl

end Cert.Proof

end
-- ==== Proof.RefHead.lean ====
/-
  The reference's dense head over the extended reals, row by row, as a function of a row's bins; and that it is the kernel's.
-/
module

public import proofs.«01_k».proof.Proof.Head
public import proofs.«01_k».proof.Proof.Gen.ReferenceIdeal.Run
public import Idealize.ShloMosaic.Lib.IdealHost

@[expose] public section

noncomputable section

namespace Cert.Proof

open Cert.ReferenceIdeal Cert.ReferenceIdeal.Gen Cert.ReferenceIdeal.Value Idealize.ShloMosaic

/-- The reference's normalised row. -/
def normR (c g z : Fin 128 → EReal) (j : Fin 128) : EReal := Ideal.div (c j) (Ideal.sqrt (spread c)) * g j + z j

/-- The reference's GELU. -/
def geluR (y : EReal) : EReal := Ideal.ofBits .f32 0x3F000000#32 * y * Ideal.erfc (-y * Ideal.ofBits .f32 0x3F3504F3#32)

/-- The two spellings of GELU agree. -/
theorem gelu_eq (y : EReal) : geluR y = geluK y := by
  rw [geluR, geluK, neg_mul, Ideal.erfc_neg, mul_comm (Ideal.ofBits .f32 0x3F000000#32) y]

/-- The width of a row is a positive number. -/
theorem width_pos : ∃ r : ℝ, 0 < r ∧ Ideal.ofBits .f32 0x43000000#32 = (r : EReal) := by
  refine ⟨128, by norm_num, ?_⟩
  simp [Ideal.ofBits, Ideal.ieee, -EReal.coe_mul]; norm_num

/-- The number added to a variance is positive. -/
theorem small_pos : 0 < Ideal.ofBits .f32 0x3727C5AC#32 := by
  simp [Ideal.ofBits, Ideal.ieee, -EReal.coe_mul]

/-- No square is below zero. -/
theorem sq_nonneg' (x : EReal) : 0 ≤ x * x := by
  induction x using EReal.rec with
  | bot => simp
  | top => simp
  | coe r => rw [← EReal.coe_mul]; exact_mod_cast mul_self_nonneg r

/-- A row's spread is above zero. -/
theorem spread_pos (c : Fin 128 → EReal) : 0 < spread c := by
  obtain ⟨r, hr, he⟩ := width_pos
  have h : 0 ≤ Ideal.div (∑ j, c j * c j) (Ideal.ofBits .f32 0x43000000#32) := by
    rw [he, Ideal.div, if_neg (by exact_mod_cast hr.ne')]
    refine mul_nonneg (Finset.sum_nonneg fun j _ => sq_nonneg' (c j)) ?_
    rw [← EReal.coe_inv]
    exact_mod_cast (inv_pos.2 hr).le
  exact lt_of_lt_of_le small_pos (le_add_of_nonneg_left h)

/-- Dividing by the root of a number above zero is multiplying by its reciprocal root. -/
theorem div_sqrt (x v : EReal) (hv : 0 < v) : Ideal.div x (Ideal.sqrt v) = x * Ideal.rsqrt v := by
  induction v using EReal.rec with
  | bot => simp at hv
  | top =>
    have h1 : Ideal.sqrt ⊤ = ⊤ := rfl
    have h2 : Ideal.rsqrt ⊤ = 0 := rfl
    rw [h1, h2, Ideal.div, if_neg (by decide), EReal.inv_top]
  | coe r =>
    have hr : 0 < r := by exact_mod_cast hv
    have hs : 0 < Real.sqrt r := Real.sqrt_pos.2 hr
    have h1 : Ideal.sqrt (r : EReal) = if r < 0 then ⊥ else (Real.sqrt r : EReal) := rfl
    have h2 : Ideal.rsqrt (r : EReal) = if r < 0 then ⊥ else if r = 0 then ⊤ else (((Real.sqrt r)⁻¹ : ℝ) : EReal) := rfl
    rw [h1, h2, if_neg hr.not_gt, if_neg hr.not_gt, if_neg hr.ne', Ideal.div, if_neg (by exact_mod_cast hs.ne'), EReal.coe_inv]

/-- The two normalised rows agree. -/
theorem norm_eq (c g z : Fin 128 → EReal) : normR c g z = normK c g z := by
  funext j
  rw [normR, normK, div_sqrt _ _ (spread_pos c)]

/-- The reference's projection at a place is its row's. -/
theorem proj_apply (V0 : Valuation τ sig (Elt Ideal)) (R : Fin 16384) (j : Fin 128) :
    res_main_v35 V0 (ix2 R j)
      = proj (fun k => res_main_v26 V0 (ix2 R k)) (fun k j => V0 (Proc.devRef .tc main_arg4) (ix2 k j)) (fun j => V0 (Proc.devRef .tc main_arg5) (ix1 j)) j := by
  pointwise [res_main_v35, id]
  simp only [proj, shares, max_comm]

/-- The reference's centred row. -/
theorem centred_apply (V0 : Valuation τ sig (Elt Ideal)) (R : Fin 16384) (j : Fin 128) :
    res_main_v41 V0 (ix2 R j) = centred (fun j => res_main_v35 V0 (ix2 R j)) j := by
  pointwise [res_main_v41, res_main_v39]
  rfl

/-- The reference's normalised row at a place. -/
theorem norm_apply (V0 : Valuation τ sig (Elt Ideal)) (R : Fin 16384) (j : Fin 128) :
    res_main_v59 V0 (ix2 R j)
      = normR (fun j => res_main_v41 V0 (ix2 R j)) (fun j => V0 (Proc.devRef .tc main_arg6) (ix1 j)) (fun j => V0 (Proc.devRef .tc main_arg7) (ix1 j)) j := by
  have h : subf (res_main_v35 V0) (broadcastInDim S16384x128 ![0, 1] bcast_S16384x1_S16384x128_0_1 (res_main_v39 V0)) = res_main_v41 V0 := rfl
  unfold res_main_v59
  rw [h]
  pointwise
  rfl

/-- The reference's row. -/
def rowR (p : Fin 24 → EReal) (w : Fin 24 → Fin 128 → EReal) (b g z : Fin 128 → EReal) (j : Fin 128) : EReal :=
  geluR (normR (centred (proj p w b)) g z j)

/-- The two rows are one function of the bins and the parameters. -/
theorem row_eq (p : Fin 24 → EReal) (w : Fin 24 → Fin 128 → EReal) (b g z : Fin 128 → EReal) : rowR p w b g z = rowK p w b g z := by
  funext j
  rw [rowR, rowK, gelu_eq, norm_eq]

/-- The reference's last array as a function of the array it is computed from. -/
def refOut (V0 : Valuation τ sig (Elt Ideal)) : Vec Ideal S16384x128 .f32 :=
  mulf (mulf (broadcastInDim S16384x128 ![] bcast_S_S16384x128 (constant S_ .f32 0x3F000000#32)) (res_main_v59 V0))
    (Host.erfc (mulf (Host.negf (res_main_v59 V0)) (broadcastInDim S16384x128 ![] bcast_S_S16384x128 (constant S_ .f32 0x3F3504F3#32))))

/-- The reference's result at a place is the kernel's row of the reference's bins. -/
theorem refOut_apply (V0 : Valuation τ sig (Elt Ideal)) (R : Fin 16384) (j : Fin 128) :
    refOut V0 (ix2 R j)
      = rowK (fun k => res_main_v26 V0 (ix2 R k)) (fun k j => V0 (Proc.devRef .tc main_arg4) (ix2 k j))
          (fun j => V0 (Proc.devRef .tc main_arg5) (ix1 j)) (fun j => V0 (Proc.devRef .tc main_arg6) (ix1 j)) (fun j => V0 (Proc.devRef .tc main_arg7) (ix1 j)) j := by
  rw [← row_eq, rowR]
  have h1 : (fun j => res_main_v35 V0 (ix2 R j)) = proj (fun k => res_main_v26 V0 (ix2 R k)) (fun k j => V0 (Proc.devRef .tc main_arg4) (ix2 k j)) (fun j => V0 (Proc.devRef .tc main_arg5) (ix1 j)) :=
    funext (proj_apply V0 R)
  have h2 : (fun j => res_main_v41 V0 (ix2 R j)) = centred (fun j => res_main_v35 V0 (ix2 R j)) := funext (centred_apply V0 R)
  rw [← h1, ← h2, ← norm_apply]
  generalize e : res_main_v59 V0 = y
  pointwise [refOut]
  rw [e]
  rfl

end Cert.Proof

end
-- ==== Proof.Scatter.lean ====
/-
  The reference's bins over the extended reals: the scatter's two index words are the row and the event's name, so a bin is
  the sum of the weights of the row's events that name it.
-/
module

public import proofs.«01_k».proof.Proof.Gen.ReferenceIdeal.Run
public import Idealize.ShloMosaic.Lib.Pointwise
public import Idealize.ShloMosaic.Lib.Routing.OpsPair
public import Idealize.ShloMosaic.PureOps.Ideal.Laws
public import Idealize.ShloMosaic.Lib.IdealHost

@[expose] public section

noncomputable section

namespace Cert.Proof

open Cert.ReferenceIdeal Cert.ReferenceIdeal.Gen Cert.ReferenceIdeal.Value Idealize.ShloMosaic

/-- The remainder the reference takes of a name, and the two clamps after it, leave a name below 24 as it is. -/
theorem name_word (x y : BitVec 32) (hx : x.toNat < 24) (hy : y = IntOp.remsi .host x 24#32) :
    IntOp.minsi 23#32 (IntOp.maxsi 0#32
      (Scalar.select (IntOp.andi (IntOp.cmpi .ne (IntOp.cmpi .slt y 0#32) (IntOp.cmpi .slt 24#32 0#32)) (IntOp.cmpi .ne y 0#32))
        (IntOp.addi y 24#32) y)) = x := by
  subst hy
  have h : ∀ k : Fin 24, ∀ z, z = BitVec.ofNat 32 k.val → IntOp.minsi 23#32 (IntOp.maxsi 0#32
      (Scalar.select (IntOp.andi (IntOp.cmpi .ne (IntOp.cmpi .slt (IntOp.remsi .host z 24#32) 0#32) (IntOp.cmpi .slt 24#32 0#32)) (IntOp.cmpi .ne (IntOp.remsi .host z 24#32) 0#32))
        (IntOp.addi (IntOp.remsi .host z 24#32) 24#32) (IntOp.remsi .host z 24#32))) = z := by
    intro k z hz
    subst hz
    revert k
    decide
  exact h ⟨x.toNat, hx⟩ x (by simp)

/-- The names as the reference reads them, at an event. -/
theorem name_apply (x : Vec Ideal S16384x200 .i32) (V0 : Valuation τ sig (Elt Ideal)) (hx : V0 (Proc.devRef .tc main_arg0) = x) (R : Fin 16384) (l : Fin 200)
    (h : (x (ix2 R l)).toNat < 24) :
    (res_main_v8 V0 (ix2 R l) : BitVec 32) = x (ix2 R l) := by
  have e2 : res_main_call1_v2 V0 = fun _ => 24#32 := by funext i; rfl
  have e4 : res_main_call1_v4 V0 = fun i => IntOp.remsi .host (x i) 24#32 := by
    funext i
    unfold res_main_call1_v4
    rw [e2, hx]
    rfl
  unfold res_main_v8
  rw [e2]
  generalize res_main_call1_v4 V0 = y at *
  show (minsi _ _ : IVec S16384x200 32) _ = _
  pointwise [id]
  exact name_word _ _ h (congrFun e4 _)

/-- The reference's bin is the sum of the weights of the row's events that name it, where the names are below 24, no time is
    below zero and every event counts fully. -/
theorem scatter_apply (V0 : Valuation τ sig (Elt Ideal)) (x : Vec Ideal S16384x200 .i32) (dt : Vec Ideal S16384x200 .f32) (mk : Vec Ideal S16384x200 .f32)
    (e : Vec Ideal S_ .f32) (hx : V0 (Proc.devRef .tc main_arg0) = x) (hdt : V0 (Proc.devRef .tc main_arg1) = dt)
    (hmk : V0 (Proc.devRef .tc main_arg2) = mk) (he : V0 (Proc.devRef .tc main_arg3) = e)
    (h0 : ∀ i, (x i).toNat < 24) (h1 : ∀ i, (0 : EReal) ≤ dt i) (h2 : ∀ i, mk i = (1 : EReal)) (R : Fin 16384) (b : Fin 24) :
    (res_main_v26 V0 (ix2 R b) : EReal)
      = ∑ l : Fin 200, if (x (ix2 R l)).toNat = b.val then Ideal.exp (dt (ix2 R l) * -Ideal.exp (e ix0)) else 0 := by
  have hn := fun R l => name_apply x V0 hx R l (h0 _)
  unfold res_main_v26
  generalize res_main_v8 V0 = nm at *
  rw [hdt, hmk, he]
  generalize hi : concatenate _ _ _ _ = idx
  have r0 : ∀ R l, (idx (ix3 R l 0)).toInt = (R.val : ℤ) := by
    intro R l
    rw [← hi]
    pointwise [res_main_v10]
    have hR := R.isLt
    have hv : (BitVec.ofNat 32 R.val).toNat = R.val := by rw [BitVec.toNat_ofNat]; omega
    rw [Routing.wrap_of_lt _ _ (by rw [hv]; omega), BitVec.toInt_eq_toNat_of_lt (by rw [hv]; omega), hv]
  have r1 : ∀ R l, (idx (ix3 R l 1)).toInt = ((x (ix2 R l)).toNat : ℤ) := by
    intro R l
    rw [← hi]
    pointwise
    have := h0 (ix2 R l)
    rw [hn, Routing.wrap_of_lt _ _ (by omega), BitVec.toInt_eq_toNat_of_lt (by omega)]
  clear hi
  generalize hu : (mulf (_ : FVec Ideal S16384x200 .f32) mk : FVec Ideal S16384x200 .f32) = upd
  have r2 : ∀ R l, (upd (ix2 R l) : EReal) = Ideal.exp (dt (ix2 R l) * -Ideal.exp (e ix0)) := by
    intro R l
    rw [← hu]
    pointwise [id]
    rw [h2, max_eq_right (h1 _), mul_one, mul_comm]
  clear hu
  have lands := fun a l => Routing.scatter_lands2 scatter_S16384x24_S16384x200x2_S16384x200_n_01_01_2 rfl rfl rfl idx a l R b
  show (_ : EReal) + ∑ j ∈ Finset.univ.filter (fun j => _ = some (ix2 R b)), (upd j : EReal) = _
  rw [Finset.sum_filter, sum_idx2]
  have hz : ∀ z : EReal, z = 0 → ∀ y w, y = w → z + y = w := fun z hz y w h => by rw [hz, zero_add, h]
  refine hz _ Ideal.ofBits_zero_f32 _ _ ?_
  rw [Finset.sum_eq_single R]
  · refine Finset.sum_congr rfl fun l _ => ?_
    rw [r2]
    refine if_congr ((lands R l).trans ?_) rfl rfl
    constructor
    · intro h; exact_mod_cast (r1 R l).symm.trans h.2
    · intro h; exact ⟨r0 R l, (r1 R l).trans (by rw [h])⟩
  · intro a _ ha
    refine Finset.sum_eq_zero fun l _ => if_neg fun h => ha ?_
    have := (r0 a l).symm.trans ((lands a l).1 h).1
    exact Fin.ext (by exact_mod_cast this)
  · exact fun h => absurd (Finset.mem_univ R) h

end Cert.Proof

end
-- ==== Proof.Algebraic.lean ====
/-
  The value claim: over the extended reals the kernel's result and the reference's are one array, for names in range, times not
  below zero and every event counted.
-/
module

public import proofs.«01_k».proof.Defs
public import proofs.«01_k».proof.Proof.Bins
public import proofs.«01_k».proof.Proof.RefHead
public import proofs.«01_k».proof.Proof.Scatter
public import proofs.«01_k».proof.Proof.Main
public import proofs.«01_k».proof.Proof.Drawn
public import proofs.«01_k».proof.Proof.Frames

@[expose] public section

noncomputable section

namespace Cert.Proof

open Idealize.ShloMosaic Idealize.ShloMosaic.TcCoe Idealize.ShloMosaic.StableHlo Idealize.SL.Sem

/-- The kernel's frame over the extended reals where the inputs are as drawn. -/
theorem frame_kernel_ideal_drawn : Cert.quiescent_KernelIdeal_pre_drawn := fun m ρ hpre =>
  (θ_run Cert.KernelIdeal.defs _ _).mono (fun _ h => ⟨fun c => (h.1 c).2, h.2⟩)
    (run_main (F := Ideal) m ρ fun d x => (drawn_parts (hpre d) x).1)

/-- The reference's frame where the inputs are as drawn. -/
theorem frame_reference_drawn : Cert.quiescent_ReferenceIdeal_pre_drawn := fun m ρ _ => frame_reference m ρ trivial

/-- What the precondition says of one event, in extended reals. -/
theorem drawn_ideal {a0 a1 a2 a3 a4 a5 a6 a7} (h : Cert.Pre_drawn.fn (F := Ideal) a0 a1 a2 a3 a4 a5 a6 a7 = fun _ => 1#1) (x : Cert.KernelIdeal.S16384x200.Idx) :
    (a0 x).toNat < 24 ∧ (0 : EReal) ≤ a1 x ∧ a2 x = (1 : EReal) := by
  obtain ⟨h0, h1, h2⟩ := drawn_parts h x
  refine ⟨h0, ?_, ?_⟩
  · have h1 : BitVec.ofBool (decide (Ideal.ofBits .f32 0x00000000#32 ≤ a1 x)) = 1#1 := h1
    rw [Ideal.ofBits_zero_f32, WordCmp.ofBool_decide_eq_one_iff] at h1
    exact h1
  · have h2 : BitVec.ofBool (decide (a2 x = Ideal.ofBits .f32 0x3F800000#32)) = 1#1 := h2
    rw [Ideal.ofBits_one_f32, WordCmp.ofBool_decide_eq_one_iff] at h2
    exact h2

/-- The kernel's result at a place is its row of the sums of the weights. -/
theorem kerOut_apply (m : (ℓ : Loc Cert.KernelIdeal.nD Cert.KernelIdeal.τ Cert.KernelIdeal.sig) → Buf (Elt Ideal) ℓ) (d : Dev Cert.KernelIdeal.nD)
    (R : Fin 16384) (j : Fin 128) :
    kerOut m d (ix2 R j)
      = rowK (fun b => ∑ l : Fin 200, if (names m d (ix2 R l)).toNat = b.val then Ideal.exp (times m d (ix2 R l) * -Ideal.exp (m ((d.tc : Thread _ _).loc Cert.KernelIdeal.main_arg3) ix0)) else 0)
          (fun k j => m ((d.tc : Thread _ _).loc Cert.KernelIdeal.main_arg4) (ix2 k j)) (fun j => m ((d.tc : Thread _ _).loc Cert.KernelIdeal.main_arg5) (ix1 j))
          (fun j => m ((d.tc : Thread _ _).loc Cert.KernelIdeal.main_arg6) (ix1 j)) (fun j => m ((d.tc : Thread _ _).loc Cert.KernelIdeal.main_arg7) (ix1 j)) j := by
  have hc : ∀ (r : Fin 1024) (j : Fin 128), bcell r j = ix2 r j := fun r j => by
    funext a; match a with
    | ⟨0, _⟩ => rfl
    | ⟨1, _⟩ => rfl
  have hg : ∀ (r : Fin 16384) (j : Fin 200), gcell r j = ix2 r j := fun r j => by
    funext a; match a with
    | ⟨0, _⟩ => rfl
    | ⟨1, _⟩ => rfl
  have hr : ∀ i, rate m d i = -Ideal.exp (m ((d.tc : Thread _ _).loc Cert.KernelIdeal.main_arg3) ix0) := by
    intro i
    pointwise [rate]
  have ha : ∀ (x : Vec Ideal Cert.KernelIdeal.S128 .f32) (j : Fin 128), asRow x (ix2 0 j) = x (ix1 j) := fun x j => by
    pointwise [asRow]
  have hb : ∀ h, inBlock R ⟨R.val % 1024, h⟩ = R := fun h => Fin.ext (by
    show 1024 * (R.val / 1024) + R.val % 1024 = R.val
    omega)
  unfold kerOut headOf
  show denseBlk _ _ _ _ _ (bcell ⟨R.val % 1024, _⟩ j) = _
  rw [hc, denseBlk_apply]
  simp only [ha]
  congr 1
  funext b
  show rowBin _ _ _ (inBlock R ⟨R.val % 1024, Nat.mod_lt _ (by decide)⟩) b.val = _
  rw [hb]
  unfold rowBin
  rw [bin_ideal _ _ _ _ hr]
  simp only [hg]

/-- The reference's result is the kernel's, where the inputs agree and are as drawn. -/
theorem refOut_eq (m : (ℓ : Loc Cert.KernelIdeal.nD Cert.KernelIdeal.τ Cert.KernelIdeal.sig) → Buf (Elt Ideal) ℓ) (d : Dev Cert.KernelIdeal.nD)
    (V0 : Valuation Cert.ReferenceIdeal.τ Cert.ReferenceIdeal.sig (Elt Ideal))
    (hd : ∀ x, (names m d x).toNat < 24 ∧ (0 : EReal) ≤ times m d x ∧ m ((d.tc : Thread _ _).loc Cert.KernelIdeal.main_arg2) x = (1 : EReal))
    (e0 : V0 (Proc.devRef .tc Cert.ReferenceIdeal.main_arg0) = m ((d.tc : Thread _ _).loc Cert.KernelIdeal.main_arg0))
    (e1 : V0 (Proc.devRef .tc Cert.ReferenceIdeal.main_arg1) = m ((d.tc : Thread _ _).loc Cert.KernelIdeal.main_arg1))
    (e2 : V0 (Proc.devRef .tc Cert.ReferenceIdeal.main_arg2) = m ((d.tc : Thread _ _).loc Cert.KernelIdeal.main_arg2))
    (e3 : V0 (Proc.devRef .tc Cert.ReferenceIdeal.main_arg3) = m ((d.tc : Thread _ _).loc Cert.KernelIdeal.main_arg3))
    (e4 : V0 (Proc.devRef .tc Cert.ReferenceIdeal.main_arg4) = m ((d.tc : Thread _ _).loc Cert.KernelIdeal.main_arg4))
    (e5 : V0 (Proc.devRef .tc Cert.ReferenceIdeal.main_arg5) = m ((d.tc : Thread _ _).loc Cert.KernelIdeal.main_arg5))
    (e6 : V0 (Proc.devRef .tc Cert.ReferenceIdeal.main_arg6) = m ((d.tc : Thread _ _).loc Cert.KernelIdeal.main_arg6))
    (e7 : V0 (Proc.devRef .tc Cert.ReferenceIdeal.main_arg7) = m ((d.tc : Thread _ _).loc Cert.KernelIdeal.main_arg7)) :
    refOut V0 = kerOut m d := by
  have h : ∀ (R : Fin 16384) (j : Fin 128), refOut V0 (ix2 R j) = kerOut m d (ix2 R j) := fun R j => by
    have hb := funext fun b : Fin 24 =>
      scatter_apply V0 _ _ _ _ e0 e1 e2 e3 (fun x => (hd x).1) (fun x => (hd x).2.1) (fun x => (hd x).2.2) R b
    rw [refOut_apply, kerOut_apply, e4, e5, e6, e7, hb]
  refine funext fun i : Cert.KernelIdeal.S16384x128.Idx => ?_
  have hi := h (i 0) (i 1)
  rw [ix2_eta] at hi
  exact hi

/-- The kernel and the reference, from equal arguments as drawn, leave one array and their arguments unchanged. -/
theorem algebraic : Cert.algebraic_KernelIdeal_ReferenceIdeal_pre_drawn := by
  intro m ρ m' ρ' hpre hagree
  refine ⟨kerOut m, ?_, ?_⟩
  · exact (θ_run Cert.KernelIdeal.defs _ _).mono (fun _ h => h.1) (run_main (F := Ideal) m ρ fun d x => (drawn_parts (hpre d) x).1)
  · refine (θ_run Cert.ReferenceIdeal.defs _ _).mono (fun _ h c => ⟨(h c).1.trans ?_, (h c).2⟩) (Cert.ReferenceIdeal.Value.run (F := Ideal) m' ρ')
    obtain ⟨e0, e1, e2, e3, e4, e5, e6, e7⟩ := hagree c
    exact refOut_eq m c (launchContents m' c) (drawn_ideal (hpre c)) e0 e1 e2 e3 e4 e5 e6 e7

end Cert.Proof

end
-- ==== Proof.lean ====
module

public import proofs.«01_k».proof.Defs
public import proofs.«01_k».proof.Proof.Frames
public import proofs.«01_k».proof.Proof.Algebraic
public import proofs.«01_k».proof.Proof.InRange
public import proofs.«01_k».proof.Proof.Gen.Kernel
public import proofs.«01_k».proof.Proof.Gen.KernelIdeal
public import proofs.«01_k».proof.Proof.Gen.ReferenceIdeal
public import proofs.«01_k».proof.Proof.Gen.Pre_drawn

@[expose] public section

noncomputable section

namespace Cert.Proof

/-- Every claim of the certificate. -/
theorem claim : Cert.Claim := ⟨Cert.Kernel.Gen.facts, Cert.KernelIdeal.Gen.facts, Cert.ReferenceIdeal.Gen.facts, inRangeFacts, Cert.Pre_drawn.Gen.facts,
  frame_kernel, frame_kernel_ideal, frame_kernel_ideal_drawn, frame_reference, frame_reference_drawn, trivial, algebraic⟩

end Cert.Proof

end
